-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Sparse [hPre_tokens : Cert.Pre_tokens.Facts] (m : (ℓ : Loc Cert.Sparse.nD Cert.Sparse.τ Cert.Sparse.sig) → Buf (Elt Bits) ℓ) : Prop :=
  ∀ c : Dev Cert.Sparse.nD,
    (Cert.Pre_tokens.fn (F := Bits) (m ((c.tc : Thread Cert.Sparse.nD Cert.Sparse.τ).loc Cert.Sparse.main_arg0)) (m ((c.tc : Thread Cert.Sparse.nD Cert.Sparse.τ).loc Cert.Sparse.main_arg1)) (m ((c.tc : Thread Cert.Sparse.nD Cert.Sparse.τ).loc Cert.Sparse.main_arg2)) (m ((c.tc : Thread Cert.Sparse.nD Cert.Sparse.τ).loc Cert.Sparse.main_arg3))) = (fun _ => 1#1)

def Pre_SparseIdeal [hPre_tokens : Cert.Pre_tokens.Facts] (m : (ℓ : Loc Cert.SparseIdeal.nD Cert.SparseIdeal.τ Cert.SparseIdeal.sig) → Buf (Elt Ideal) ℓ) : Prop :=
  ∀ c : Dev Cert.SparseIdeal.nD,
    (Cert.Pre_tokens.fn (F := Ideal) (m ((c.tc : Thread Cert.SparseIdeal.nD Cert.SparseIdeal.τ).loc Cert.SparseIdeal.main_arg0)) (m ((c.tc : Thread Cert.SparseIdeal.nD Cert.SparseIdeal.τ).loc Cert.SparseIdeal.main_arg1)) (m ((c.tc : Thread Cert.SparseIdeal.nD Cert.SparseIdeal.τ).loc Cert.SparseIdeal.main_arg2)) (m ((c.tc : Thread Cert.SparseIdeal.nD Cert.SparseIdeal.τ).loc Cert.SparseIdeal.main_arg3))) = (fun _ => 1#1)

def Pre_SparseIdeal_drawn [hPre_drawn : Cert.Pre_drawn.Facts] (m : (ℓ : Loc Cert.SparseIdeal.nD Cert.SparseIdeal.τ Cert.SparseIdeal.sig) → Buf (Elt Ideal) ℓ) : Prop :=
  ∀ c : Dev Cert.SparseIdeal.nD,
    (Cert.Pre_drawn.fn (F := Ideal) (m ((c.tc : Thread Cert.SparseIdeal.nD Cert.SparseIdeal.τ).loc Cert.SparseIdeal.main_arg0)) (m ((c.tc : Thread Cert.SparseIdeal.nD Cert.SparseIdeal.τ).loc Cert.SparseIdeal.main_arg1)) (m ((c.tc : Thread Cert.SparseIdeal.nD Cert.SparseIdeal.τ).loc Cert.SparseIdeal.main_arg2)) (m ((c.tc : Thread Cert.SparseIdeal.nD Cert.SparseIdeal.τ).loc Cert.SparseIdeal.main_arg3))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sparse [hSparse : Cert.Sparse.Facts] [hPre_tokens : Cert.Pre_tokens.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (Cert.Sparse.threads (F := Bits)) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3))
      ∧ r.2.sem = fun _ => 0)

def quiescent_SparseIdeal [hSparseIdeal : Cert.SparseIdeal.Facts] [hPre_tokens : Cert.Pre_tokens.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (Cert.SparseIdeal.threads (F := Ideal)) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ r.2.sem = fun _ => 0)

def quiescent_SparseIdeal_pre_drawn [hSparseIdeal : Cert.SparseIdeal.Facts] [hPre_drawn : Cert.Pre_drawn.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal_drawn m →
    θ_run (Cert.SparseIdeal.defs (F := Ideal)) (Cert.SparseIdeal.threads (F := Ideal)) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sparse_SparseIdeal : Prop :=
  True

def algebraic_SparseIdeal_ReferenceIdeal_pre_drawn [hSparseIdeal : Cert.SparseIdeal.Facts] [hReferenceIdeal : Cert.ReferenceIdeal.Facts] [hPre_drawn : Cert.Pre_drawn.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SparseIdeal_drawn m →
    (∀ c : Dev Cert.SparseIdeal.nD,
      m' ((c.tc : Thread Cert.ReferenceIdeal.nD Cert.ReferenceIdeal.τ).loc Cert.ReferenceIdeal.main_arg0) = m ((c.tc : Thread Cert.SparseIdeal.nD Cert.SparseIdeal.τ).loc Cert.SparseIdeal.main_arg0)
      ∧ m' ((c.tc : Thread Cert.ReferenceIdeal.nD Cert.ReferenceIdeal.τ).loc Cert.ReferenceIdeal.main_arg1) = m ((c.tc : Thread Cert.SparseIdeal.nD Cert.SparseIdeal.τ).loc Cert.SparseIdeal.main_arg1)
      ∧ m' ((c.tc : Thread Cert.ReferenceIdeal.nD Cert.ReferenceIdeal.τ).loc Cert.ReferenceIdeal.main_arg2) = m ((c.tc : Thread Cert.SparseIdeal.nD Cert.SparseIdeal.τ).loc Cert.SparseIdeal.main_arg2)
      ∧ m' ((c.tc : Thread Cert.ReferenceIdeal.nD Cert.ReferenceIdeal.τ).loc Cert.ReferenceIdeal.main_arg3) = m ((c.tc : Thread Cert.SparseIdeal.nD Cert.SparseIdeal.τ).loc Cert.SparseIdeal.main_arg3)) →
    ∃ (v0 : (c : Dev Cert.SparseIdeal.nD) → Buf (Elt Ideal) ((c.tc : Thread Cert.SparseIdeal.nD Cert.SparseIdeal.τ).loc Cert.SparseIdeal.main_v14)),
      θ_run (Cert.SparseIdeal.defs (F := Ideal)) (Cert.SparseIdeal.threads (F := Ideal)) ⟨m, fun _ => 0, g⟩ (fun r => ∀ c : Dev Cert.SparseIdeal.nD,
          r.2.mem ((c.tc : Thread Cert.SparseIdeal.nD Cert.SparseIdeal.τ).loc Cert.SparseIdeal.main_v14) = v0 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
          ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hSparse : Cert.Sparse.Facts) (hSparseIdeal : Cert.SparseIdeal.Facts) (hPre_tokens : Cert.Pre_tokens.Facts) (hPre_drawn : Cert.Pre_drawn.Facts),
    quiescent_Kernel (hKernel := hKernel) (hPre_tokens := hPre_tokens)
    ∧ quiescent_KernelIdeal (hKernelIdeal := hKernelIdeal) (hPre_tokens := hPre_tokens)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ quiescent_Sparse (hSparse := hSparse) (hPre_tokens := hPre_tokens)
    ∧ quiescent_SparseIdeal (hSparseIdeal := hSparseIdeal) (hPre_tokens := hPre_tokens)
    ∧ quiescent_SparseIdeal_pre_drawn (hSparseIdeal := hSparseIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
    ∧ preserves_Sparse_SparseIdeal
    ∧ algebraic_SparseIdeal_ReferenceIdeal_pre_drawn (hSparseIdeal := hSparseIdeal) (hReferenceIdeal := hReferenceIdeal) (hPre_drawn := hPre_drawn)
-- ==== Pre_drawn.lean ====
abbrev S4096x4096 : Shape := ⟨2, ![4096, 4096]⟩
abbrev S64x48 : Shape := ⟨2, ![64, 48]⟩
abbrev S64x8 : Shape := ⟨2, ![64, 8]⟩
abbrev S_ : Shape := ⟨0, ![]⟩
abbrev S3072 : Shape := ⟨1, ![3072]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  shapeCasts_S3072_S64x48 : S3072.ShapeCasts S64x48
  reducesTo_S64x48_S_d0_1 : S64x48.ReducesTo [0, 1] S_
  bcast_S_S64x8 : S_.BroadcastsInDim S64x8 (![] : Fin 0 → Fin S64x8.rank)
  reducesTo_S64x8_S_d0_1 : S64x8.ReducesTo [0, 1] S_

variable [Facts]

def fn_part1 {F : FTy → Type} [FloatOps F] (main_arg3 : IVec S64x8 32) (main_v14 : IVec S_ 1) (main_v16 : IVec S64x8 1) : IVec S_ 1 :=
  let main_c_5 : IVec S_ 32 := constantI S_ 32 4096#32
  let main_v17 : IVec S64x8 32 := broadcastInDim S64x8 ![] bcast_S_S64x8 main_c_5
  let main_v18 : IVec S64x8 1 := cmpi .slt main_arg3 main_v17
  let main_v19 : IVec S64x8 1 := andi main_v16 main_v18
  let main_c_6 : IVec S_ 1 := constantI S_ 1 1#1
  let main_v20 : IVec S_ 1 := (fun x v => Host.reduce IntOp.andi x v reducesTo_S64x8_S_d0_1 h_S_) main_v19 main_c_6
  let main_v21 : IVec S_ 1 := andi main_v14 main_v20
  main_v21

def fn {F : FTy → Type} [FloatOps F] (main_arg0 : FVec F S4096x4096 .f32) (main_arg1 : IVec S64x48 32) (main_arg2 : IVec S64x8 32) (main_arg3 : IVec S64x8 32) : IVec S_ 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oeq main_arg0 main_v0
  let main_c : IVec S_ 1 := constantI S_ 1 1#1
  let main_v2 : IVec S_ 1 := (fun x v => Host.reduce IntOp.andi x v reducesTo_S4096x4096_S_d0_1 h_S_) main_v1 main_c
  let main_v3 : IVec S3072 32 := iotaInDim S3072 32 0
  let main_v4 : IVec S64x48 32 := shapeCast S64x48 main_v3 shapeCasts_S3072_S64x48
  let main_v5 : IVec S64x48 1 := cmpi .eq main_arg1 main_v4
  let main_c_0 : IVec S_ 1 := constantI S_ 1 1#1
  let main_v6 : IVec S_ 1 := (fun x v => Host.reduce IntOp.andi x v reducesTo_S64x48_S_d0_1 h_S_) main_v5 main_c_0
  let main_v7 : IVec S_ 1 := andi main_v2 main_v6
  let main_c_1 : IVec S_ 32 := constantI S_ 32 0#32
  let main_v8 : IVec S64x8 32 := broadcastInDim S64x8 ![] bcast_S_S64x8 main_c_1
  let main_v9 : IVec S64x8 1 := cmpi .sge main_arg2 main_v8
  let main_c_2 : IVec S_ 32 := constantI S_ 32 4096#32
  let main_v10 : IVec S64x8 32 := broadcastInDim S64x8 ![] bcast_S_S64x8 main_c_2
  let main_v11 : IVec S64x8 1 := cmpi .slt main_arg2 main_v10
  let main_v12 : IVec S64x8 1 := andi main_v9 main_v11
  let main_c_3 : IVec S_ 1 := constantI S_ 1 1#1
  let main_v13 : IVec S_ 1 := (fun x v => Host.reduce IntOp.andi x v reducesTo_S64x8_S_d0_1 h_S_) main_v12 main_c_3
  let main_v14 : IVec S_ 1 := andi main_v7 main_v13
  let main_c_4 : IVec S_ 32 := constantI S_ 32 0#32
  let main_v15 : IVec S64x8 32 := broadcastInDim S64x8 ![] bcast_S_S64x8 main_c_4
  let main_v16 : IVec S64x8 1 := cmpi .sge main_arg3 main_v15
  fn_part1 (F := F) main_arg3 main_v14 main_v16
-- ==== Pre_tokens.lean ====
abbrev S4096x4096 : Shape := ⟨2, ![4096, 4096]⟩
abbrev S64x48 : Shape := ⟨2, ![64, 48]⟩
abbrev S64x8 : Shape := ⟨2, ![64, 8]⟩
abbrev S_ : Shape := ⟨0, ![]⟩

class Facts : Prop where
  bcast_S_S64x8 : S_.BroadcastsInDim S64x8 (![] : Fin 0 → Fin S64x8.rank)
  reducesTo_S64x8_S_d0_1 : S64x8.ReducesTo [0, 1] S_
  h_S_ : 0 < S_.numel

variable [Facts]

def fn {F : FTy → Type} [FloatOps F] (main_arg0 : FVec F S4096x4096 .f32) (main_arg1 : IVec S64x48 32) (main_arg2 : IVec S64x8 32) (main_arg3 : IVec S64x8 32) : IVec S_ 1 :=
  let main_c : IVec S_ 32 := constantI S_ 32 0#32
  let main_v0 : IVec S64x8 32 := broadcastInDim S64x8 ![] bcast_S_S64x8 main_c
  let main_v1 : IVec S64x8 1 := cmpi .sge main_arg2 main_v0
  let main_c_0 : IVec S_ 32 := constantI S_ 32 4096#32
  let main_v2 : IVec S64x8 32 := broadcastInDim S64x8 ![] bcast_S_S64x8 main_c_0
  let main_v3 : IVec S64x8 1 := cmpi .slt main_arg2 main_v2
  let main_v4 : IVec S64x8 1 := andi main_v1 main_v3
  let main_c_1 : IVec S_ 1 := constantI S_ 1 1#1
  let main_v5 : IVec S_ 1 := (fun x v => Host.reduce IntOp.andi x v reducesTo_S64x8_S_d0_1 h_S_) main_v4 main_c_1
  let main_c_2 : IVec S_ 32 := constantI S_ 32 0#32
  let main_v6 : IVec S64x8 32 := broadcastInDim S64x8 ![] bcast_S_S64x8 main_c_2
  let main_v7 : IVec S64x8 1 := cmpi .sge main_arg3 main_v6
  let main_c_3 : IVec S_ 32 := constantI S_ 32 4096#32
  let main_v8 : IVec S64x8 32 := broadcastInDim S64x8 ![] bcast_S_S64x8 main_c_3
  let main_v9 : IVec S64x8 1 := cmpi .slt main_arg3 main_v8
  let main_v10 : IVec S64x8 1 := andi main_v7 main_v9
  let main_c_4 : IVec S_ 1 := constantI S_ 1 1#1
  let main_v11 : IVec S_ 1 := (fun x v => Host.reduce IntOp.andi x v reducesTo_S64x8_S_d0_1 h_S_) main_v10 main_c_4
  let main_v12 : IVec S_ 1 := andi main_v5 main_v11
  main_v12
-- ==== Kernel.lean ====
abbrev S4096x4096 : Shape := ⟨2, ![4096, 4096]⟩
abbrev S64x48 : Shape := ⟨2, ![64, 48]⟩
abbrev S64x8 : Shape := ⟨2, ![64, 8]⟩
abbrev S512x4096 : Shape := ⟨2, ![512, 4096]⟩
abbrev S64x4096 : Shape := ⟨2, ![64, 4096]⟩
abbrev S1x4096 : Shape := ⟨2, ![1, 4096]⟩
abbrev S64x1 : Shape := ⟨2, ![64, 1]⟩
abbrev S_ : Shape := ⟨0, ![]⟩
abbrev S1x1 : Shape := ⟨2, ![1, 1]⟩
abbrev S1x512 : Shape := ⟨2, ![1, 512]⟩
abbrev S64x512 : Shape := ⟨2, ![64, 512]⟩

abbrev nBuf : Space → Nat
  | .hbm => 5
  | .vmem => 4
  | .smem => 3
  | _ => 0

abbrev bufTy : (tb : Table) → Fin (tcTables nBuf tb) → BufTy
  | .hbm, ⟨0, _⟩ => ⟨S4096x4096, .f32⟩
  | .hbm, ⟨1, _⟩ => ⟨S64x48, .i32⟩
  | .hbm, ⟨2, _⟩ => ⟨S64x8, .i32⟩
  | .hbm, ⟨3, _⟩ => ⟨S64x8, .i32⟩
  | .hbm, ⟨4, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S64x4096, .bf16⟩
  | .local _ .vmem, ⟨3, _⟩ => ⟨S1x4096, .i32⟩
  | .local _ .smem, ⟨0, _⟩ => ⟨S64x8, .i32⟩
  | .local _ .smem, ⟨1, _⟩ => ⟨S64x8, .i32⟩
  | .local _ .smem, ⟨2, _⟩ => ⟨S1x4096, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_stg1_0 : Ref sig .tc := ⟨.smem, 1, rfl⟩
abbrev cc0_scratch2 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_12 : BitVec 32 := 0#32
  let c64_i32 : BitVec 32 := 64#32
  let v49 : BitVec 32 := Scalar.addi c0_i32_12 c64_i32
  let c1_i32_13 : BitVec 32 := 1#32
  ⟨c0_i32_12, v49, c1_i32_13⟩
def k0_off1 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v65 : Index := Scalar.indexCast arg7
  let c0_24 : Index := 0#32
  ![v65.toNat, 0]
def k0_off2 (v66 : BitVec 32) : Fin 2 → Nat :=
  let c0_25 : Index := 0#32
  let v67 : Index := Scalar.indexCast v66
  ![0, v67.toNat]

def k0_chk1 (i : grid0.Coords) (v66 : BitVec 32) : Prop :=
  (∀ (k0_h1 : k0_cond1 i = 1#1), ∀ a, (k0_off2 v66) a + S1x1.size a ≤ S1x4096.size a)
theorem k0_off2_inb : ∀ (i : grid0.Coords) (v66 : BitVec 32) (k0_hw1 : k0_chk1 i v66), ∀ (k0_h1 : k0_cond1 i = 1#1), ∀ a, (k0_off2 v66) a + S1x1.size a ≤ S1x4096.size a := fun i v66 k0_hw1 k0_h1 => k0_hw1 k0_h1

def k0_off3 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v69 : Index := Scalar.indexCast arg7
  let c1 : Index := 1#32
  ![v69.toNat, 1]
def k0_off4 (v70 : BitVec 32) : Fin 2 → Nat :=
  let c0_26 : Index := 0#32
  let v71 : Index := Scalar.indexCast v70
  ![0, v71.toNat]

def k0_chk2 (i : grid0.Coords) (v70 : BitVec 32) : Prop :=
  (∀ (k0_h1 : k0_cond1 i = 1#1), ∀ a, (k0_off4 v70) a + S1x1.size a ≤ S1x4096.size a)
theorem k0_off4_inb : ∀ (i : grid0.Coords) (v70 : BitVec 32) (k0_hw2 : k0_chk2 i v70), ∀ (k0_h1 : k0_cond1 i = 1#1), ∀ a, (k0_off4 v70) a + S1x1.size a ≤ S1x4096.size a := fun i v70 k0_hw2 k0_h1 => k0_hw2 k0_h1

def k0_off5 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v73 : Index := Scalar.indexCast arg7
  let c2 : Index := 2#32
  ![v73.toNat, 2]
def k0_off6 (v74 : BitVec 32) : Fin 2 → Nat :=
  let c0_27 : Index := 0#32
  let v75 : Index := Scalar.indexCast v74
  ![0, v75.toNat]

def k0_chk3 (i : grid0.Coords) (v74 : BitVec 32) : Prop :=
  (∀ (k0_h1 : k0_cond1 i = 1#1), ∀ a, (k0_off6 v74) a + S1x1.size a ≤ S1x4096.size a)
theorem k0_off6_inb : ∀ (i : grid0.Coords) (v74 : BitVec 32) (k0_hw3 : k0_chk3 i v74), ∀ (k0_h1 : k0_cond1 i = 1#1), ∀ a, (k0_off6 v74) a + S1x1.size a ≤ S1x4096.size a := fun i v74 k0_hw3 k0_h1 => k0_hw3 k0_h1

def k0_off7 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v77 : Index := Scalar.indexCast arg7
  let c3 : Index := 3#32
  ![v77.toNat, 3]
def k0_off8 (v78 : BitVec 32) : Fin 2 → Nat :=
  let c0_28 : Index := 0#32
  let v79 : Index := Scalar.indexCast v78
  ![0, v79.toNat]

def k0_chk4 (i : grid0.Coords) (v78 : BitVec 32) : Prop :=
  (∀ (k0_h1 : k0_cond1 i = 1#1), ∀ a, (k0_off8 v78) a + S1x1.size a ≤ S1x4096.size a)
theorem k0_off8_inb : ∀ (i : grid0.Coords) (v78 : BitVec 32) (k0_hw4 : k0_chk4 i v78), ∀ (k0_h1 : k0_cond1 i = 1#1), ∀ a, (k0_off8 v78) a + S1x1.size a ≤ S1x4096.size a := fun i v78 k0_hw4 k0_h1 => k0_hw4 k0_h1

def k0_off9 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v81 : Index := Scalar.indexCast arg7
  let c4 : Index := 4#32
  ![v81.toNat, 4]
def k0_off10 (v82 : BitVec 32) : Fin 2 → Nat :=
  let c0_29 : Index := 0#32
  let v83 : Index := Scalar.indexCast v82
  ![0, v83.toNat]

def k0_chk5 (i : grid0.Coords) (v82 : BitVec 32) : Prop :=
  (∀ (k0_h1 : k0_cond1 i = 1#1), ∀ a, (k0_off10 v82) a + S1x1.size a ≤ S1x4096.size a)
theorem k0_off10_inb : ∀ (i : grid0.Coords) (v82 : BitVec 32) (k0_hw5 : k0_chk5 i v82), ∀ (k0_h1 : k0_cond1 i = 1#1), ∀ a, (k0_off10 v82) a + S1x1.size a ≤ S1x4096.size a := fun i v82 k0_hw5 k0_h1 => k0_hw5 k0_h1

def k0_off11 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v85 : Index := Scalar.indexCast arg7
  let c5 : Index := 5#32
  ![v85.toNat, 5]
def k0_off12 (v86 : BitVec 32) : Fin 2 → Nat :=
  let c0_30 : Index := 0#32
  let v87 : Index := Scalar.indexCast v86
  ![0, v87.toNat]

def k0_chk6 (i : grid0.Coords) (v86 : BitVec 32) : Prop :=
  (∀ (k0_h1 : k0_cond1 i = 1#1), ∀ a, (k0_off12 v86) a + S1x1.size a ≤ S1x4096.size a)
theorem k0_off12_inb : ∀ (i : grid0.Coords) (v86 : BitVec 32) (k0_hw6 : k0_chk6 i v86), ∀ (k0_h1 : k0_cond1 i = 1#1), ∀ a, (k0_off12 v86) a + S1x1.size a ≤ S1x4096.size a := fun i v86 k0_hw6 k0_h1 => k0_hw6 k0_h1

def k0_off13 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v89 : Index := Scalar.indexCast arg7
  let c6 : Index := 6#32
  ![v89.toNat, 6]
def k0_off14 (v90 : BitVec 32) : Fin 2 → Nat :=
  let c0_31 : Index := 0#32
  let v91 : Index := Scalar.indexCast v90
  ![0, v91.toNat]

def k0_chk7 (i : grid0.Coords) (v90 : BitVec 32) : Prop :=
  (∀ (k0_h1 : k0_cond1 i = 1#1), ∀ a, (k0_off14 v90) a + S1x1.size a ≤ S1x4096.size a)
theorem k0_off14_inb : ∀ (i : grid0.Coords) (v90 : BitVec 32) (k0_hw7 : k0_chk7 i v90), ∀ (k0_h1 : k0_cond1 i = 1#1), ∀ a, (k0_off14 v90) a + S1x1.size a ≤ S1x4096.size a := fun i v90 k0_hw7 k0_h1 => k0_hw7 k0_h1

def k0_off15 (k0_t1 : Fin k0_t1_loop.trips) : Fin 2 → Nat :=
  let c0_i32_12 : BitVec 32 := 0#32
  let c1_i32_13 : BitVec 32 := 1#32
  let arg7 : BitVec 32 := Scf.iv c0_i32_12 c1_i32_13 k0_t1
  let v93 : Index := Scalar.indexCast arg7
  let c7 : Index := 7#32
  ![v93.toNat, 7]
def k0_off16 (v94 : BitVec 32) : Fin 2 → Nat :=
  let c0_32 : Index := 0#32
  let v95 : Index := Scalar.indexCast v94
  ![0, v95.toNat]

def k0_chk8 (i : grid0.Coords) (v94 : BitVec 32) : Prop :=
  (∀ (k0_h1 : k0_cond1 i = 1#1), ∀ a, (k0_off16 v94) a + S1x1.size a ≤ S1x4096.size a)
theorem k0_off16_inb : ∀ (i : grid0.Coords) (v94 : BitVec 32) (k0_hw8 : k0_chk8 i v94), ∀ (k0_h1 : k0_cond1 i = 1#1), ∀ a, (k0_off16 v94) a + S1x1.size a ≤ S1x4096.size a := fun i v94 k0_hw8 k0_h1 => k0_hw8 k0_h1

@[reducible] def k0_t2_loop : Scf.Loop 32 :=
  let c0_i32_15 : BitVec 32 := 0#32
  let c64_i32_16 : BitVec 32 := 64#32
  let v50 : BitVec 32 := Scalar.addi c0_i32_15 c64_i32_16
  let c1_i32_17 : BitVec 32 := 1#32
  ⟨c0_i32_15, v50, c1_i32_17⟩
def k0_off17 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v65 : Index := Scalar.indexCast arg7
  let c0_24 : Index := 0#32
  ![v65.toNat, 0]
def k0_off18 (v66 : BitVec 32) : Fin 2 → Nat :=
  let c0_25 : Index := 0#32
  let v67 : Index := Scalar.indexCast v66
  ![0, v67.toNat]

def k0_chk9 (i : grid0.Coords) (v66 : BitVec 32) : Prop :=
  (∀ (k0_h1 : k0_cond1 i = 1#1), ∀ a, (k0_off18 v66) a + S1x1.size a ≤ S1x4096.size a)
theorem k0_off18_inb : ∀ (i : grid0.Coords) (v66 : BitVec 32) (k0_hw9 : k0_chk9 i v66), ∀ (k0_h1 : k0_cond1 i = 1#1), ∀ a, (k0_off18 v66) a + S1x1.size a ≤ S1x4096.size a := fun i v66 k0_hw9 k0_h1 => k0_hw9 k0_h1

def k0_off19 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v69 : Index := Scalar.indexCast arg7
  let c1 : Index := 1#32
  ![v69.toNat, 1]
def k0_off20 (v70 : BitVec 32) : Fin 2 → Nat :=
  let c0_26 : Index := 0#32
  let v71 : Index := Scalar.indexCast v70
  ![0, v71.toNat]

def k0_chk10 (i : grid0.Coords) (v70 : BitVec 32) : Prop :=
  (∀ (k0_h1 : k0_cond1 i = 1#1), ∀ a, (k0_off20 v70) a + S1x1.size a ≤ S1x4096.size a)
theorem k0_off20_inb : ∀ (i : grid0.Coords) (v70 : BitVec 32) (k0_hw10 : k0_chk10 i v70), ∀ (k0_h1 : k0_cond1 i = 1#1), ∀ a, (k0_off20 v70) a + S1x1.size a ≤ S1x4096.size a := fun i v70 k0_hw10 k0_h1 => k0_hw10 k0_h1

def k0_off21 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v73 : Index := Scalar.indexCast arg7
  let c2 : Index := 2#32
  ![v73.toNat, 2]
def k0_off22 (v74 : BitVec 32) : Fin 2 → Nat :=
  let c0_27 : Index := 0#32
  let v75 : Index := Scalar.indexCast v74
  ![0, v75.toNat]

def k0_chk11 (i : grid0.Coords) (v74 : BitVec 32) : Prop :=
  (∀ (k0_h1 : k0_cond1 i = 1#1), ∀ a, (k0_off22 v74) a + S1x1.size a ≤ S1x4096.size a)
theorem k0_off22_inb : ∀ (i : grid0.Coords) (v74 : BitVec 32) (k0_hw11 : k0_chk11 i v74), ∀ (k0_h1 : k0_cond1 i = 1#1), ∀ a, (k0_off22 v74) a + S1x1.size a ≤ S1x4096.size a := fun i v74 k0_hw11 k0_h1 => k0_hw11 k0_h1

def k0_off23 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v77 : Index := Scalar.indexCast arg7
  let c3 : Index := 3#32
  ![v77.toNat, 3]
def k0_off24 (v78 : BitVec 32) : Fin 2 → Nat :=
  let c0_28 : Index := 0#32
  let v79 : Index := Scalar.indexCast v78
  ![0, v79.toNat]

def k0_chk12 (i : grid0.Coords) (v78 : BitVec 32) : Prop :=
  (∀ (k0_h1 : k0_cond1 i = 1#1), ∀ a, (k0_off24 v78) a + S1x1.size a ≤ S1x4096.size a)
theorem k0_off24_inb : ∀ (i : grid0.Coords) (v78 : BitVec 32) (k0_hw12 : k0_chk12 i v78), ∀ (k0_h1 : k0_cond1 i = 1#1), ∀ a, (k0_off24 v78) a + S1x1.size a ≤ S1x4096.size a := fun i v78 k0_hw12 k0_h1 => k0_hw12 k0_h1

def k0_off25 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v81 : Index := Scalar.indexCast arg7
  let c4 : Index := 4#32
  ![v81.toNat, 4]
def k0_off26 (v82 : BitVec 32) : Fin 2 → Nat :=
  let c0_29 : Index := 0#32
  let v83 : Index := Scalar.indexCast v82
  ![0, v83.toNat]

def k0_chk13 (i : grid0.Coords) (v82 : BitVec 32) : Prop :=
  (∀ (k0_h1 : k0_cond1 i = 1#1), ∀ a, (k0_off26 v82) a + S1x1.size a ≤ S1x4096.size a)
theorem k0_off26_inb : ∀ (i : grid0.Coords) (v82 : BitVec 32) (k0_hw13 : k0_chk13 i v82), ∀ (k0_h1 : k0_cond1 i = 1#1), ∀ a, (k0_off26 v82) a + S1x1.size a ≤ S1x4096.size a := fun i v82 k0_hw13 k0_h1 => k0_hw13 k0_h1

def k0_off27 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v85 : Index := Scalar.indexCast arg7
  let c5 : Index := 5#32
  ![v85.toNat, 5]
def k0_off28 (v86 : BitVec 32) : Fin 2 → Nat :=
  let c0_30 : Index := 0#32
  let v87 : Index := Scalar.indexCast v86
  ![0, v87.toNat]

def k0_chk14 (i : grid0.Coords) (v86 : BitVec 32) : Prop :=
  (∀ (k0_h1 : k0_cond1 i = 1#1), ∀ a, (k0_off28 v86) a + S1x1.size a ≤ S1x4096.size a)
theorem k0_off28_inb : ∀ (i : grid0.Coords) (v86 : BitVec 32) (k0_hw14 : k0_chk14 i v86), ∀ (k0_h1 : k0_cond1 i = 1#1), ∀ a, (k0_off28 v86) a + S1x1.size a ≤ S1x4096.size a := fun i v86 k0_hw14 k0_h1 => k0_hw14 k0_h1

def k0_off29 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v89 : Index := Scalar.indexCast arg7
  let c6 : Index := 6#32
  ![v89.toNat, 6]
def k0_off30 (v90 : BitVec 32) : Fin 2 → Nat :=
  let c0_31 : Index := 0#32
  let v91 : Index := Scalar.indexCast v90
  ![0, v91.toNat]

def k0_chk15 (i : grid0.Coords) (v90 : BitVec 32) : Prop :=
  (∀ (k0_h1 : k0_cond1 i = 1#1), ∀ a, (k0_off30 v90) a + S1x1.size a ≤ S1x4096.size a)
theorem k0_off30_inb : ∀ (i : grid0.Coords) (v90 : BitVec 32) (k0_hw15 : k0_chk15 i v90), ∀ (k0_h1 : k0_cond1 i = 1#1), ∀ a, (k0_off30 v90) a + S1x1.size a ≤ S1x4096.size a := fun i v90 k0_hw15 k0_h1 => k0_hw15 k0_h1

def k0_off31 (k0_t2 : Fin k0_t2_loop.trips) : Fin 2 → Nat :=
  let c0_i32_15 : BitVec 32 := 0#32
  let c1_i32_17 : BitVec 32 := 1#32
  let arg7 : BitVec 32 := Scf.iv c0_i32_15 c1_i32_17 k0_t2
  let v93 : Index := Scalar.indexCast arg7
  let c7 : Index := 7#32
  ![v93.toNat, 7]
def k0_off32 (v94 : BitVec 32) : Fin 2 → Nat :=
  let c0_32 : Index := 0#32
  let v95 : Index := Scalar.indexCast v94
  ![0, v95.toNat]

def k0_chk16 (i : grid0.Coords) (v94 : BitVec 32) : Prop :=
  (∀ (k0_h1 : k0_cond1 i = 1#1), ∀ a, (k0_off32 v94) a + S1x1.size a ≤ S1x4096.size a)
theorem k0_off32_inb : ∀ (i : grid0.Coords) (v94 : BitVec 32) (k0_hw16 : k0_chk16 i v94), ∀ (k0_h1 : k0_cond1 i = 1#1), ∀ a, (k0_off32 v94) a + S1x1.size a ≤ S1x4096.size a := fun i v94 k0_hw16 k0_h1 => k0_hw16 k0_h1

def k0_mult1 (i : grid0.Coords) : BitVec 32 :=
  let arg0 : BitVec 32 := BitVec.ofNat 32 (i 0).val
  let c512_i32 : BitVec 32 := 512#32
  let v4 : BitVec 32 := Scalar.muli arg0 c512_i32
  v4
def k0_off33 (i : grid0.Coords) : Fin 2 → Nat :=
  let c0 : Index := 0#32
  let arg0 : BitVec 32 := BitVec.ofNat 32 (i 0).val
  let c512_i32 : BitVec 32 := 512#32
  let v4 : BitVec 32 := Scalar.muli arg0 c512_i32
  let v5 : BitVec 32 := v4
  let v6 : Index := Scalar.indexCast v5
  ![0, v6.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S64x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S64x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S64x48 : Shape := ⟨2, ![64, 48]⟩
abbrev S64x8 : Shape := ⟨2, ![64, 8]⟩
abbrev S_ : Shape := ⟨0, ![]⟩
abbrev S4096 : Shape := ⟨1, ![4096]⟩
abbrev S64 : Shape := ⟨1, ![64]⟩
abbrev S64x1 : Shape := ⟨2, ![64, 1]⟩
abbrev S3072 : Shape := ⟨1, ![3072]⟩
abbrev S3072x1 : Shape := ⟨2, ![3072, 1]⟩
abbrev S512 : Shape := ⟨1, ![512]⟩
abbrev S512x1 : Shape := ⟨2, ![512, 1]⟩
abbrev S4096x1 : Shape := ⟨2, ![4096, 1]⟩
abbrev S1x4096 : Shape := ⟨2, ![1, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x48, .i32⟩
  | .hbm, ⟨2, _⟩ => ⟨S64x8, .i32⟩
  | .hbm, ⟨3, _⟩ => ⟨S64x8, .i32⟩
  | .hbm, ⟨4, _⟩ => ⟨S_, .i32⟩
  | .hbm, ⟨5, _⟩ => ⟨S4096, .i32⟩
  | .hbm, ⟨6, _⟩ => ⟨S64, .i32⟩
  | .hbm, ⟨7, _⟩ => ⟨S64x1, .i32⟩
  | .hbm, ⟨8, _⟩ => ⟨S64x48, .i32⟩
  | .hbm, ⟨9, _⟩ => ⟨S3072, .i32⟩
  | .hbm, ⟨10, _⟩ => ⟨S3072, .i32⟩
  | .hbm, ⟨11, _⟩ => ⟨S_, .i32⟩
  | .hbm, ⟨12, _⟩ => ⟨S3072, .i32⟩
  | .hbm, ⟨13, _⟩ => ⟨S3072, .i1⟩
  | .hbm, ⟨14, _⟩ => ⟨S_, .i32⟩
  | .hbm, ⟨15, _⟩ => ⟨S3072, .i32⟩
  | .hbm, ⟨16, _⟩ => ⟨S3072, .i32⟩
  | .hbm, ⟨17, _⟩ => ⟨S3072, .i32⟩
  | .hbm, ⟨18, _⟩ => ⟨S3072x1, .i32⟩
  | .hbm, ⟨19, _⟩ => ⟨S4096, .i32⟩
  | .hbm, ⟨20, _⟩ => ⟨S64, .i32⟩
  | .hbm, ⟨21, _⟩ => ⟨S64x1, .i32⟩
  | .hbm, ⟨22, _⟩ => ⟨S64x8, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S4096, .i32⟩
  | .hbm, ⟨34, _⟩ => ⟨S64, .i32⟩
  | .hbm, ⟨35, _⟩ => ⟨S64x1, .i32⟩
  | .hbm, ⟨36, _⟩ => ⟨S64x8, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S512x1, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S4096x1, .i32⟩
  | .hbm, ⟨52, _⟩ => ⟨S1x4096, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S4096x1, .i1⟩
  | .hbm, ⟨57, _⟩ => ⟨S4096x4096, .i1⟩
  | .hbm, ⟨58, _⟩ => ⟨S4096x4096, .i1⟩
  | .hbm, ⟨59, _⟩ => ⟨S1x4096, .i1⟩
  | .hbm, ⟨60, _⟩ => ⟨S4096x4096, .i1⟩
  | .hbm, ⟨61, _⟩ => ⟨S4096x4096, .i1⟩
  | .hbm, ⟨62, _⟩ => ⟨S_, .f32⟩
  | .hbm, ⟨63, _⟩ => ⟨S4096x4096, .f32⟩
  | .hbm, ⟨64, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst : Ref sig .tc := ⟨.hbm, 62, rfl⟩
abbrev main_call0_v0 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Sparse.lean ====
abbrev S4096x4096 : Shape := ⟨2, ![4096, 4096]⟩
abbrev S64x48 : Shape := ⟨2, ![64, 48]⟩
abbrev S64x8 : Shape := ⟨2, ![64, 8]⟩
abbrev S64 : Shape := ⟨1, ![64]⟩
abbrev S64x1 : Shape := ⟨2, ![64, 1]⟩
abbrev S64x16 : Shape := ⟨2, ![64, 16]⟩
abbrev S1024 : Shape := ⟨1, ![1024]⟩
abbrev S2048 : Shape := ⟨1, ![2048]⟩
abbrev S4096 : Shape := ⟨1, ![4096]⟩
abbrev S_ : Shape := ⟨0, ![]⟩
abbrev S16 : Shape := ⟨1, ![16]⟩
abbrev S1x4096 : Shape := ⟨2, ![1, 4096]⟩
abbrev S256x4096 : Shape := ⟨2, ![256, 4096]⟩
abbrev S64x4096 : Shape := ⟨2, ![64, 4096]⟩
abbrev S1x256 : Shape := ⟨2, ![1, 256]⟩
abbrev S64x256 : Shape := ⟨2, ![64, 256]⟩

abbrev nBuf : Table → Nat
  | .hbm => 19
  | .local .tc .vmem => 4
  | .local .scVector .vmem => 3
  | _ => 0

abbrev bufTy : (tb : Table) → Fin (nBuf tb) → BufTy
  | .hbm, ⟨0, _⟩ => ⟨S4096x4096, .f32⟩
  | .hbm, ⟨1, _⟩ => ⟨S64x48, .i32⟩
  | .hbm, ⟨2, _⟩ => ⟨S64x8, .i32⟩
  | .hbm, ⟨3, _⟩ => ⟨S64x8, .i32⟩
  | .hbm, ⟨4, _⟩ => ⟨S64, .i32⟩
  | .hbm, ⟨5, _⟩ => ⟨S64x1, .i32⟩
  | .hbm, ⟨6, _⟩ => ⟨S64x16, .i32⟩
  | .hbm, ⟨7, _⟩ => ⟨S1024, .i32⟩
  | .hbm, ⟨8, _⟩ => ⟨S64x16, .i32⟩
  | .hbm, ⟨9, _⟩ => ⟨S1024, .i32⟩
  | .hbm, ⟨10, _⟩ => ⟨S2048, .i32⟩
  | .hbm, ⟨11, _⟩ => ⟨S64x16, .i32⟩
  | .hbm, ⟨12, _⟩ => ⟨S1024, .i32⟩
  | .hbm, ⟨13, _⟩ => ⟨S64x16, .i32⟩
  | .hbm, ⟨14, _⟩ => ⟨S1024, .i32⟩
  | .hbm, ⟨15, _⟩ => ⟨S2048, .i32⟩
  | .hbm, ⟨16, _⟩ => ⟨S4096, .i32⟩
  | .hbm, ⟨17, _⟩ => ⟨S1x4096, .i32⟩
  | .hbm, ⟨18, _⟩ => ⟨S4096x4096, .f32⟩
  | .local .tc .vmem, ⟨0, _⟩ => ⟨S1x4096, .i32⟩
  | .local .tc .vmem, ⟨1, _⟩ => ⟨S256x4096, .f32⟩
  | .local .tc .vmem, ⟨2, _⟩ => ⟨S256x4096, .f32⟩
  | .local .tc .vmem, ⟨3, _⟩ => ⟨S64x4096, .bf16⟩
  | .local .scVector .vmem, ⟨0, _⟩ => ⟨S4096, .i32⟩
  | .local .scVector .vmem, ⟨1, _⟩ => ⟨S2048, .i32⟩
  | .local .scVector .vmem, ⟨2, _⟩ => ⟨S2048, .i32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v6_scv : Ref sig .scVector := ⟨.hbm, 10, rfl⟩
abbrev main_v11_scv : Ref sig .scVector := ⟨.hbm, 15, rfl⟩
abbrev main_v12_scv : Ref sig .scVector := ⟨.hbm, 16, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_scratch0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem1_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_3 : BitVec 32 := 0#32
  let c256_i32 : BitVec 32 := 256#32
  let v5 : BitVec 32 := Scalar.addi c0_i32_3 c256_i32
  let c1_i32 : BitVec 32 := 1#32
  ⟨c0_i32_3, v5, c1_i32⟩
def k0_off1 (k0_t1 : Fin k0_t1_loop.trips) : Fin 1 → Nat :=
  let c0_i32_3 : BitVec 32 := 0#32
  let c1_i32 : BitVec 32 := 1#32
  let arg8 : BitVec 32 := Scf.iv c0_i32_3 c1_i32 k0_t1
  let c16_i32_15 : BitVec 32 := 16#32
  let v39 : BitVec 32 := Scalar.muli arg8 c16_i32_15
  let v40 : Index := Scalar.indexCast v39
  ![v40.toNat]
@[reducible] def k0_t2_loop : Scf.Loop 32 :=
  let c0_i32_6 : BitVec 32 := 0#32
  let c128_i32 : BitVec 32 := 128#32
  let v6 : BitVec 32 := Scalar.addi c0_i32_6 c128_i32
  let c1_i32_7 : BitVec 32 := 1#32
  ⟨c0_i32_6, v6, c1_i32_7⟩
def k0_off2 (k0_t2 : Fin k0_t2_loop.trips) : Fin 1 → Nat :=
  let c0_i32_6 : BitVec 32 := 0#32
  let c1_i32_7 : BitVec 32 := 1#32
  let arg8 : BitVec 32 := Scf.iv c0_i32_6 c1_i32_7 k0_t2
  let c16_i32 : BitVec 32 := 16#32
  let v7 : BitVec 32 := Scalar.muli arg8 c16_i32
  let v8 : Index := Scalar.indexCast v7
  ![v8.toNat]

def k0_chk1 (i : grid0.Coords) (v9 : IVec S16 32) : Prop :=
  (∀ (k0_h1 : k0_cond1 i = 1#1), ∀ a x, ((![v9] : Fin 1 → IVec S16 32) a x).toNat < S4096.size a)
theorem k0_idx1_inb : ∀ (i : grid0.Coords) (v9 : IVec S16 32) (k0_hw1 : k0_chk1 i v9), ∀ (k0_h1 : k0_cond1 i = 1#1), ∀ a x, ((![v9] : Fin 1 → IVec S16 32) a x).toNat < S4096.size a := fun i v9 k0_hw1 k0_h1 => k0_hw1 k0_h1
abbrev grid1 : Pipeline.Grid := ⟨1, ![16], ![false]⟩

def k1_mult1 (i : grid1.Coords) : BitVec 32 :=
  let arg0 : BitVec 32 := BitVec.ofNat 32 (i 0).val
  let c256_i32 : BitVec 32 := 256#32
  let v4 : BitVec 32 := Scalar.muli arg0 c256_i32
  v4
def k1_off1 (i : grid1.Coords) : Fin 2 → Nat :=
  let c0 : Index := 0#32
  let arg0 : BitVec 32 := BitVec.ofNat 32 (i 0).val
  let c256_i32 : BitVec 32 := 256#32
  let v4 : BitVec 32 := Scalar.muli arg0 c256_i32
  let v5 : BitVec 32 := v4
  let v6 : Index := Scalar.indexCast v5
  ![0, v6.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Spec.lean ====
/-
  The timestep vector of the causal mask, as plain functions of the two index tables.

  Token `p` of the 4096 carries the timestep that owns it. Image tokens own it by position (48 per timestep), a
  table of token numbers then overwrites entries, a row (one timestep) at a time: first the state table's 64 rows,
  then the action table's. `put` is one overwrite, `rowPut` one row of eight, `rows` the first `k` rows in order.
-/
module

public import Idealize.ShloMosaic.Lib.WordCmp

@[expose] public section

noncomputable section

namespace Cert.Mask

/-- A table of timestep words, one per token. -/
abbrev Stamps := Fin 4096 → BitVec 32
/-- A table of token numbers: eight per timestep. -/
abbrev Tokens := Fin 64 → Fin 8 → BitVec 32

/-- Every token number of the table is one of the 4096 tokens. -/
def InRange (A : Tokens) : Prop := ∀ t e, (A t e).toNat < 4096

/-- `g` with the entry the word `w` numbers replaced by `x`. -/
def put (g : Stamps) (w x : BitVec 32) : Stamps := fun p => if p.val = w.toNat then x else g p

/-- The first `n` of a row's overwrites, all with the same word `x`. -/
def puts (a : Fin 8 → BitVec 32) (x : BitVec 32) (g : Stamps) : ℕ → Stamps
  | 0 => g
  | n + 1 => if h : n < 8 then put (puts a x g n) (a ⟨n, h⟩) x else puts a x g n

/-- One timestep's row: its eight tokens all take the timestep. -/
def rowPut (A : Tokens) (t : Fin 64) (g : Stamps) : Stamps := puts (A t) (BitVec.ofNat 32 t.val) g 8

/-- The table's first `k` rows, in order. -/
def rows (A : Tokens) (g : Stamps) : ℕ → Stamps
  | 0 => g
  | k + 1 => if h : k < 64 then rowPut A ⟨k, h⟩ (rows A g k) else rows A g k

/-- The image tokens' timesteps: 48 tokens each, none (-1) from token 3072 on. -/
def base : Stamps := fun p => if p.val < 3072 then BitVec.ofNat 32 (p.val / 48) else 4294967295#32

/-- The whole timestep vector. -/
def stamps (S A : Tokens) : Stamps := rows A (rows S base 64) 64

/-- The words a timestep vector holds: a timestep below 64, or -1. -/
def Stamp (x : BitVec 32) : Prop := x.toNat < 64 ∨ x = 4294967295#32

theorem rows_succ (A : Tokens) (g : Stamps) (k : Fin 64) : rows A g (k.val + 1) = rowPut A k (rows A g k.val) := by
  rw [rows, dif_pos k.isLt]

theorem put_at (g : Stamps) (w x : BitVec 32) (p : Fin 4096) : put g w x p = if p.val = w.toNat then x else g p := rfl

/-- An entry after the first `n` overwrites of a row, whatever their order. -/
theorem puts_at (a : Fin 8 → BitVec 32) (x : BitVec 32) (g : Stamps) (n : ℕ) (p : Fin 4096) :
    puts a x g n p = if ∃ e : Fin 8, e.val < n ∧ (a e).toNat = p.val then x else g p := by
  induction n with
  | zero => rw [if_neg (by rintro ⟨e, h, -⟩; omega)]; rfl
  | succ n ih =>
    rw [puts]
    by_cases h : n < 8
    · rw [dif_pos h, put_at, ih]
      by_cases hp : p.val = (a ⟨n, h⟩).toNat
      · rw [if_pos hp, if_pos ⟨⟨n, h⟩, Nat.lt_succ_self n, hp.symm⟩]
      · rw [if_neg hp]
        refine if_congr ⟨fun ⟨e, h1, h2⟩ => ⟨e, by omega, h2⟩, fun ⟨e, h1, h2⟩ => ⟨e, ?_, h2⟩⟩ rfl rfl
        rcases Nat.lt_succ_iff_lt_or_eq.1 h1 with h3 | h3
        · exact h3
        · exact absurd (by rw [← h2]; exact congrArg (fun i => (a i).toNat) (Fin.ext h3)) hp
    · rw [dif_neg h, ih]
      exact if_congr ⟨fun ⟨e, h1, h2⟩ => ⟨e, by omega, h2⟩, fun ⟨e, h1, h2⟩ => ⟨e, by have := e.isLt; omega, h2⟩⟩ rfl rfl

/-- A row's entry: the timestep if the row names the token, else as it was. -/
theorem rowPut_at (A : Tokens) (t : Fin 64) (g : Stamps) (p : Fin 4096) :
    rowPut A t g p = if ∃ e : Fin 8, (A t e).toNat = p.val then BitVec.ofNat 32 t.val else g p := by
  rw [rowPut, puts_at]
  exact if_congr ⟨fun ⟨e, _, h⟩ => ⟨e, h⟩, fun ⟨e, h⟩ => ⟨e, e.isLt, h⟩⟩ rfl rfl

/-- Rows keep the words timesteps or -1. -/
theorem rows_stamp (A : Tokens) (g : Stamps) (hg : ∀ p, Stamp (g p)) (k : ℕ) : ∀ p, Stamp (rows A g k p) := by
  induction k with
  | zero => exact hg
  | succ k ih =>
    intro p
    rw [rows]
    by_cases h : k < 64
    · rw [dif_pos h, rowPut_at]
      by_cases he : ∃ e : Fin 8, (A ⟨k, h⟩ e).toNat = p.val
      · rw [if_pos he]; left; rw [BitVec.toNat_ofNat]; show k % _ < 64; omega
      · rw [if_neg he]; exact ih p
    · rw [dif_neg h]; exact ih p

theorem base_stamp (p : Fin 4096) : Stamp (base p) := by
  unfold base
  by_cases h : p.val < 3072
  · rw [if_pos h]; left; rw [BitVec.toNat_ofNat]; omega
  · rw [if_neg h]; right; rfl

/-- Every word of the timestep vector is a timestep or -1. -/
theorem stamps_stamp (S A : Tokens) (p : Fin 4096) : Stamp (stamps S A p) :=
  rows_stamp A _ (rows_stamp S _ base_stamp 64) 64 p

end Cert.Mask

end
-- ==== Proof.Payload.lean ====
module

public import proofs.«01_k».proof.Proof.Gen.KernelIdeal.Skeleton
public import proofs.«01_k».proof.Proof.Spec
public import Idealize.ShloMosaic.Lib.WordCmp
public import Idealize.ShloMosaic.Lib.Routing.Words
public import Idealize.ShloMosaic.Lib.Pointwise.ElementwiseCore
public import Idealize.ShloMosaic.Lib.Pointwise.Index

@[expose] public section

/-!
The words the kernel starts its timestep vector at: an image token's timestep is its position divided by 48, every other
position holds the word of `-1`.
-/

set_option maxRecDepth 16384

noncomputable section

namespace Cert.KernelIdeal.Hand

open Cert.KernelIdeal Cert.KernelIdeal.Gen Cert.Mask
open Idealize.ShloMosaic Idealize.ShloMosaic.WordCmp

/-- The token a column of the vector stands for. -/
abbrev col (y : S1x4096.Idx) : Fin 4096 := y 1

/-- A timestep table as the vector the kernel keeps it in. -/
def row (g : Stamps) : S1x4096.Idx → BitVec 32 := fun y => g (col y)

/-- The floored quotient by 48, as the program rounds it: the truncated quotient, less one where the signs of the two
sides differ and a remainder is left — never, at a position. -/
theorem floor_48 (p : ℕ) (hp : p < 4096) :
    Scalar.select (IntOp.andi (IntOp.cmpi .ne
        ((IntOp.cmpi .sgt (BitVec.ofNat 32 p) 0#32).setWidth 32 - (IntOp.cmpi .slt (BitVec.ofNat 32 p) 0#32).setWidth 32) 1#32)
        (IntOp.cmpi .ne (IntOp.remsi .vector (BitVec.ofNat 32 p) 48#32) 0#32))
      (IntOp.divsi .vector (BitVec.ofNat 32 p) 48#32 - 1#32) (IntOp.divsi .vector (BitVec.ofNat 32 p) 48#32)
      = BitVec.ofNat 32 (p / 48) := by
  rw [Routing.divsi_word .vector (a := p) (b := 48) (by omega) (by decide) (by decide),
    Routing.remsi_word .vector (a := p) (b := 48) (by omega) (by decide) (by decide)]
  have hs : IntOp.cmpi .slt (BitVec.ofNat 32 p) 0#32 = 0#1 :=
    (cmpi_slt_ofNat_eq_zero_iff (w := 32) (a := p) (b := 0) (by omega) (by decide)).mpr (Nat.not_lt_zero p)
  rw [hs]
  rcases Nat.eq_zero_or_pos p with rfl | h
  · decide
  · have hg : IntOp.cmpi .sgt (BitVec.ofNat 32 p) 0#32 = 1#1 :=
      (cmpi_sgt_ofNat_eq_one_iff (w := 32) (a := p) (b := 0) (by omega) (by decide)).mpr h
    rw [hg]
    generalize IntOp.cmpi .ne (BitVec.ofNat 32 (p % 48)) 0#32 = b
    generalize BitVec.ofNat 32 (p / 48) = q
    have e : IntOp.andi (IntOp.cmpi .ne ((1#1).setWidth 32 - (0#1).setWidth 32) 1#32) b = 0#1 := by
      revert b; decide
    rw [e]; rfl

/-- The program's initial vector is the one of the image tokens' timesteps. -/
theorem pay3_row : k0_pay3 = row base := by
  funext y
  unfold k0_pay3
  rw [shapeCast_self]
  have hp : (col y).val < 4096 := (col y).isLt
  have key := floor_48 (col y).val hp
  have hi : iota .tc S1x4096 32 [1] iota_S1x4096_d1_w32 y = BitVec.ofNat 32 (col y).val := by
    rw [iota_at]; exact congrArg (BitVec.ofNat 32) (by show 0 * _ + (col y).val = _; rw [Nat.zero_mul, Nat.zero_add])
  have h1 : Scalar.subi (Scalar.extui (Scalar.cmpi .sgt 48#32 0#32)) (Scalar.extui (Scalar.cmpi .slt 48#32 0#32)) = (1#32 : BitVec 32) := by decide
  rw [h1]
  simp only [select_at, cmpi_at, andi_at, broadcast_at, subi_apply, ValueIdx.extui_apply, divsi_apply, remsi_apply, hi]
  refine (congrArg (fun z => Scalar.select (IntOp.cmpi .slt (BitVec.ofNat 32 (col y).val) 3072#32) z 4294967295#32) key).trans ?_
  unfold row base
  by_cases h : (col y).val < 3072
  · rw [(cmpi_slt_ofNat_eq_one_iff (w := 32) (a := (col y).val) (b := 3072) (by omega) (by decide)).mpr h, if_pos h]; rfl
  · rw [(cmpi_slt_ofNat_eq_zero_iff (w := 32) (a := (col y).val) (b := 3072) (by omega) (by decide)).mpr h, if_neg h]; rfl

end Cert.KernelIdeal.Hand
end
-- ==== Proof.Run.lean ====
module

public import proofs.«01_k».proof.Proof.Gen.KernelIdeal.Loops
public import proofs.«01_k».proof.Proof.Gen.KernelIdeal.Launch
public import proofs.«01_k».proof.Proof.Gen.KernelIdeal.Skeleton
public import proofs.«01_k».proof.Proof.Gen.KernelIdeal.Points
public import proofs.«01_k».proof.Proof.Payload
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow
public import Idealize.ShloMosaic.Lib.Pointwise.Index

@[expose] public section

set_option maxRecDepth 16384

noncomputable section

namespace Cert.KernelIdeal.Hand

open Cert.KernelIdeal Cert.KernelIdeal.Gen Cert.Mask
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline's beside the transfers' counters. -/
local notation "𝕄" => MT nD τ sig Unit (Elt F) ℕ (Pipeline.UD sig nD τ) ℕ

/-- A staged table of token numbers by timestep and position. -/
def toks (f : S64x8.Idx → BitVec 32) : Tokens := fun t e => f (ix2 t e)

/-- A word in range is a column of the timestep vector. -/
theorem col_inb (w : BitVec 32) (hw : w.toNat < 4096) (a : Fin 2) : k0_off2 w a + S1x1.size a ≤ S1x4096.size a := by
  fin_cases a
  · show 0 + 1 ≤ 1; omega
  · show w.toNat + 1 ≤ 4096; omega

theorem iv_eq (k : ℕ) : Scf.iv 0#32 1#32 k = BitVec.ofNat 32 k := by
  unfold Scf.iv; rw [BitVec.mul_one, BitVec.zero_add]

/-- One overwrite of a row on the vector's buffer, over the overwrites before it. -/
theorem read_one {sp : Space} (v : View sig .tc sp S1x4096 .i32) (f : v.ty.Contents (Elt F)) (L : List (View.Piece (Elt F) S1x4096 .i32))
    {a : Fin 8 → BitVec 32} {x : BitVec 32} {g : Stamps} (n : ℕ) (hn : n < 8) {w : BitVec 32} (hw : w = a ⟨n, hn⟩)
    (hL : v.read (Elt F) (v.writes (Elt F) f L) = row (puts a x g n))
    {off : Fin 2 → ℕ} (inb : ∀ i, off i + (![1, 1] : Fin 2 → ℕ) i ≤ S1x4096.size i) (hoff : off = ![0, w.toNat]) :
    v.read (Elt F) (v.writes (Elt F) f (⟨Rect.unit off ![1, 1] inb, fun _ => x⟩ :: L)) = row (puts a x g (n + 1)) := by
  funext y
  rw [View.read_writes_cons_unit v f inb _ L y hoff]
  have h0 : (y (0 : Fin 2)).val < 1 := (y (0 : Fin 2)).isLt
  show _ = puts a x g (n + 1) (col y)
  rw [puts, dif_pos hn, put_at, ← hw]
  by_cases h : (y (1 : Fin 2)).val = w.toNat
  · rw [if_pos h, dif_pos]
    exact Fin.forall_fin_two.2 ⟨⟨Nat.zero_le _, by show _ < 0 + 1; omega⟩, by show w.toNat ≤ _; omega, by show _ < w.toNat + 1; omega⟩
  · rw [if_neg h, dif_neg, hL]
    · rfl
    · intro hall
      have h1 : w.toNat ≤ (y (1 : Fin 2)).val ∧ (y (1 : Fin 2)).val < w.toNat + 1 := hall 1
      omega

/-- The word a one-element load of a table of token numbers takes. -/
theorem word_at {sp : Space} (v : View sig .tc sp S64x8 .i32) (f : v.ty.Contents (Elt F)) {off : Fin 2 → ℕ}
    (inb : ∀ i, off i + S1x1.size i ≤ S64x8.size i) (x : (Rect.unit (s := S64x8) off S1x1.size inb).shape.Idx) (t : Fin 64) (e : Fin 8)
    (hoff : off = ![t.val, e.val]) : v.readAt (Elt F) (Rect.unit (s := S64x8) off S1x1.size inb).toLoadRect f x = toks (v.read (Elt F) f) t e := by
  subst hoff
  rw [View.readAt_apply]
  refine congrArg (v.read (Elt F) f) (funext fun a => Fin.ext ?_)
  have h0 : (x (0 : Fin 2)).val < 1 := (x (0 : Fin 2)).isLt
  have h1 : (x (1 : Fin 2)).val < 1 := (x (1 : Fin 2)).isLt
  fin_cases a
  · show t.val + 1 * (x (0 : Fin 2)).val = t.val; omega
  · show e.val + 1 * (x (1 : Fin 2)).val = e.val; omega

theorem word_lt {sp : Space} {v : View sig .tc sp S64x8 .i32} {f : v.ty.Contents (Elt F)}
    (hr : InRange (toks (v.read (Elt F) f))) (r : LoadRect S64x8) (x : r.shape.Idx) :
    (v.readAt (Elt F) r f x).toNat < 4096 := by
  rw [View.readAt_apply, eq_ix2 (r.idx x)]
  exact hr _ _

/-- The offsets the loads of the row `k` compute. -/
theorem off_row (k : ℕ) (hk : k < 64) (e : ℕ) : (![(Scf.iv 0#32 1#32 k).toNat, e] : Fin 2 → ℕ) = ![k, e] := by
  rw [iv_eq, BitVec.toNat_ofNat, Nat.mod_eq_of_lt (by omega)]

section Trip

variable (c : Dev nD) (i : grid0.Coords) (arg1 : Memref sig .tc .smem S64x8 .i32) (harg1 : arg1.IsWhole)
  (arg2 : Memref sig .tc .smem S64x8 .i32) (harg2 : arg2.IsWhole) (arg3 : Memref sig .tc .vmem S512x4096 .f32)
  (harg3 : arg3.IsWhole) (arg4 : Memref sig .tc .vmem S64x4096 .bf16) (harg4 : arg4.IsWhole)
  (arg5 : Memref sig .tc .vmem S1x4096 .i32) (harg5 : arg5.IsWhole) (arg6 : Memref sig .tc .smem S1x4096 .i32)
  (harg6 : arg6.IsWhole) (r0 r1 : DmaSems sig S_) (k0_h1 : k0_cond1 i = 1#1)

theorem trip1 (f1 : Buf (Elt F) (arg1.view.loc (c : Thread nD τ))) (f6 : Buf (Elt F) (arg6.view.loc (c : Thread nD τ)))
    (hr : InRange (toks (arg1.view.read (Elt F) f1))) (g : Stamps) (k : Fin k0_t1_loop.trips)
    (h6 : arg6.view.read (Elt F) f6 = row g) :
    iprop((arg1.view.loc (c : Thread nD τ) ↦[arg1.view.set]{fullShare} f1)
      ∗ (arg6.view.loc (c : Thread nD τ) ↦[arg6.view.set]{fullShare} f6) : sProp 𝕄)
    ⊢ wp frame (wpE (defs₀ (F := F)) Variants.none (c : Thread nD τ) none) Set.univ
        (k0_t1_body i arg1 harg1 arg2 harg2 arg3 harg3 arg4 harg4 arg5 harg5 arg6 harg6 r0 r1 k0_h1 k ())
        (fun _ => iprop((arg1.view.loc (c : Thread nD τ) ↦[arg1.view.set]{fullShare} f1)
          ∗ ∃ f, ⌜arg6.view.read (Elt F) f = row (rowPut (toks (arg1.view.read (Elt F) f1)) k g)⌝
            ∗ (arg6.view.loc (c : Thread nD τ) ↦[arg6.view.set]{fullShare} f))) := by
  unfold k0_t1_body
  simp only [k0_part1_eq_skeleton]; unfold k0_part1_skel
  iintro ⟨H1, H6⟩
  have hw := word_lt (F := F) hr
  sl_exec (disch := exact fun _ => col_inb _ (hw _ _))
  sl_step
  isplitl [H1]; · iexact H1
  iexists _
  isplitr
  swap; · iexact H6
  ipureintro
  have hk : k.val < 64 := k.isLt
  have hx : ∀ n, puts (toks (arg1.view.read (Elt F) f1) ⟨k.val, hk⟩) (Scf.iv 0#32 1#32 k.val) g n
      = puts (toks (arg1.view.read (Elt F) f1) ⟨k.val, hk⟩) (BitVec.ofNat 32 k.val) g n := fun n => by rw [iv_eq]
  rw [show rowPut (toks (arg1.view.read (Elt F) f1)) k g = _ from (hx 8).symm]
  refine read_one _ _ _ 7 (by decide) (word_at _ _ _ _ ⟨k.val, hk⟩ 7 (off_row _ hk 7)) ?_ _ rfl
  refine read_one _ _ _ 6 (by decide) (word_at _ _ _ _ ⟨k.val, hk⟩ 6 (off_row _ hk 6)) ?_ _ rfl
  refine read_one _ _ _ 5 (by decide) (word_at _ _ _ _ ⟨k.val, hk⟩ 5 (off_row _ hk 5)) ?_ _ rfl
  refine read_one _ _ _ 4 (by decide) (word_at _ _ _ _ ⟨k.val, hk⟩ 4 (off_row _ hk 4)) ?_ _ rfl
  refine read_one _ _ _ 3 (by decide) (word_at _ _ _ _ ⟨k.val, hk⟩ 3 (off_row _ hk 3)) ?_ _ rfl
  refine read_one _ _ _ 2 (by decide) (word_at _ _ _ _ ⟨k.val, hk⟩ 2 (off_row _ hk 2)) ?_ _ rfl
  refine read_one _ _ _ 1 (by decide) (word_at _ _ _ _ ⟨k.val, hk⟩ 1 (off_row _ hk 1)) ?_ _ rfl
  refine read_one _ _ _ 0 (by decide) (word_at _ _ _ _ ⟨k.val, hk⟩ 0 (off_row _ hk 0)) ?_ _ rfl
  exact h6

theorem trip2 (f1 : Buf (Elt F) (arg2.view.loc (c : Thread nD τ))) (f6 : Buf (Elt F) (arg6.view.loc (c : Thread nD τ)))
    (hr : InRange (toks (arg2.view.read (Elt F) f1))) (g : Stamps) (k : Fin k0_t2_loop.trips)
    (h6 : arg6.view.read (Elt F) f6 = row g) :
    iprop((arg2.view.loc (c : Thread nD τ) ↦[arg2.view.set]{fullShare} f1)
      ∗ (arg6.view.loc (c : Thread nD τ) ↦[arg6.view.set]{fullShare} f6) : sProp 𝕄)
    ⊢ wp frame (wpE (defs₀ (F := F)) Variants.none (c : Thread nD τ) none) Set.univ
        (k0_t2_body i arg1 harg1 arg2 harg2 arg3 harg3 arg4 harg4 arg5 harg5 arg6 harg6 r0 r1 k0_h1 k ())
        (fun _ => iprop((arg2.view.loc (c : Thread nD τ) ↦[arg2.view.set]{fullShare} f1)
          ∗ ∃ f, ⌜arg6.view.read (Elt F) f = row (rowPut (toks (arg2.view.read (Elt F) f1)) k g)⌝
            ∗ (arg6.view.loc (c : Thread nD τ) ↦[arg6.view.set]{fullShare} f))) := by
  unfold k0_t2_body
  simp only [k0_part2_eq_skeleton]; unfold k0_part2_skel
  iintro ⟨H1, H6⟩
  have hw := word_lt (F := F) hr
  sl_exec (disch := exact fun _ => col_inb _ (hw _ _))
  sl_step
  isplitl [H1]; · iexact H1
  iexists _
  isplitr
  swap; · iexact H6
  ipureintro
  have hk : k.val < 64 := k.isLt
  have hx : ∀ n, puts (toks (arg2.view.read (Elt F) f1) ⟨k.val, hk⟩) (Scf.iv 0#32 1#32 k.val) g n
      = puts (toks (arg2.view.read (Elt F) f1) ⟨k.val, hk⟩) (BitVec.ofNat 32 k.val) g n := fun n => by rw [iv_eq]
  rw [show rowPut (toks (arg2.view.read (Elt F) f1)) k g = _ from (hx 8).symm]
  refine read_one _ _ _ 7 (by decide) (word_at _ _ _ _ ⟨k.val, hk⟩ 7 (off_row _ hk 7)) ?_ _ rfl
  refine read_one _ _ _ 6 (by decide) (word_at _ _ _ _ ⟨k.val, hk⟩ 6 (off_row _ hk 6)) ?_ _ rfl
  refine read_one _ _ _ 5 (by decide) (word_at _ _ _ _ ⟨k.val, hk⟩ 5 (off_row _ hk 5)) ?_ _ rfl
  refine read_one _ _ _ 4 (by decide) (word_at _ _ _ _ ⟨k.val, hk⟩ 4 (off_row _ hk 4)) ?_ _ rfl
  refine read_one _ _ _ 3 (by decide) (word_at _ _ _ _ ⟨k.val, hk⟩ 3 (off_row _ hk 3)) ?_ _ rfl
  refine read_one _ _ _ 2 (by decide) (word_at _ _ _ _ ⟨k.val, hk⟩ 2 (off_row _ hk 2)) ?_ _ rfl
  refine read_one _ _ _ 1 (by decide) (word_at _ _ _ _ ⟨k.val, hk⟩ 1 (off_row _ hk 1)) ?_ _ rfl
  refine read_one _ _ _ 0 (by decide) (word_at _ _ _ _ ⟨k.val, hk⟩ 0 (off_row _ hk 0)) ?_ _ rfl
  exact h6

/-- What the state table's loop keeps: the vector holds the first `k` rows' overwrites of `g`. -/
def inv1 (f1 : Buf (Elt F) (arg1.view.loc (c : Thread nD τ))) (g : Stamps) (k : ℕ) (_ : Unit) : sProp 𝕄 :=
  iprop((arg1.view.loc (c : Thread nD τ) ↦[arg1.view.set]{fullShare} f1)
    ∗ owns (c : Thread nD τ) arg6 fullShare (row (rows (toks (arg1.view.read (Elt F) f1)) g k)))

theorem step1 (f1 : Buf (Elt F) (arg1.view.loc (c : Thread nD τ))) (hr : InRange (toks (arg1.view.read (Elt F) f1)))
    (g : Stamps) (k : Fin k0_t1_loop.trips) (u : Unit) :
    (inv1 c arg1 arg6 f1 g k.val u : sProp 𝕄) ⊢ wp Idealize.ShloMosaic.frame (wpE (defs₀ (F := F)) Variants.none (c : Thread nD τ) none) Set.univ
      (k0_t1_body i arg1 harg1 arg2 harg2 arg3 harg3 arg4 harg4 arg5 harg5 arg6 harg6 r0 r1 k0_h1 k u)
      (inv1 c arg1 arg6 f1 g (k.val + 1)) := by
  unfold inv1 owns
  iintro ⟨H1, %f6, %h6, H6⟩
  iapply (wp_wand_r Idealize.ShloMosaic.frame (wpE (defs₀ (F := F)) Variants.none (c : Thread nD τ) none) Set.univ)
  isplitl [H1 H6]
  · iapply (trip1 c i arg1 harg1 arg2 harg2 arg3 harg3 arg4 harg4 arg5 harg5 arg6 harg6 r0 r1 k0_h1 f1 f6 hr _ k h6)
    isplitl [H1]; · iexact H1
    iexact H6
  · iintro %_ ⟨H1, %f, %hf, H6⟩
    isplitl [H1]; · iexact H1
    iexists f
    isplitr; · ipureintro; exact hf.trans (congrArg row (rows_succ _ _ k).symm)
    iexact H6

/-- What the action table's loop keeps: the vector holds the first `k` rows' overwrites of `g`. -/
def inv2 (f1 : Buf (Elt F) (arg2.view.loc (c : Thread nD τ))) (g : Stamps) (k : ℕ) (_ : Unit) : sProp 𝕄 :=
  iprop((arg2.view.loc (c : Thread nD τ) ↦[arg2.view.set]{fullShare} f1)
    ∗ owns (c : Thread nD τ) arg6 fullShare (row (rows (toks (arg2.view.read (Elt F) f1)) g k)))

theorem step2 (f1 : Buf (Elt F) (arg2.view.loc (c : Thread nD τ))) (hr : InRange (toks (arg2.view.read (Elt F) f1)))
    (g : Stamps) (k : Fin k0_t2_loop.trips) (u : Unit) :
    (inv2 c arg2 arg6 f1 g k.val u : sProp 𝕄) ⊢ wp Idealize.ShloMosaic.frame (wpE (defs₀ (F := F)) Variants.none (c : Thread nD τ) none) Set.univ
      (k0_t2_body i arg1 harg1 arg2 harg2 arg3 harg3 arg4 harg4 arg5 harg5 arg6 harg6 r0 r1 k0_h1 k u)
      (inv2 c arg2 arg6 f1 g (k.val + 1)) := by
  unfold inv2 owns
  iintro ⟨H1, %f6, %h6, H6⟩
  iapply (wp_wand_r Idealize.ShloMosaic.frame (wpE (defs₀ (F := F)) Variants.none (c : Thread nD τ) none) Set.univ)
  isplitl [H1 H6]
  · iapply (trip2 c i arg1 harg1 arg2 harg2 arg3 harg3 arg4 harg4 arg5 harg5 arg6 harg6 r0 r1 k0_h1 f1 f6 hr _ k h6)
    isplitl [H1]; · iexact H1
    iexact H6
  · iintro %_ ⟨H1, %f, %hf, H6⟩
    isplitl [H1]; · iexact H1
    iexists f
    isplitr; · ipureintro; exact hf.trans (congrArg row (rows_succ _ _ k).symm)
    iexact H6

end Trip

/-! ## The body -/

section Body

variable (c : Dev nD) (i : grid0.Coords) (arg1 : Memref sig .tc .smem S64x8 .i32) (harg1 : arg1.IsWhole)
  (arg2 : Memref sig .tc .smem S64x8 .i32) (harg2 : arg2.IsWhole) (arg3 : Memref sig .tc .vmem S512x4096 .f32)
  (harg3 : arg3.IsWhole) (arg4 : Memref sig .tc .vmem S64x4096 .bf16) (harg4 : arg4.IsWhole)
  (arg5 : Memref sig .tc .vmem S1x4096 .i32) (harg5 : arg5.IsWhole)
  (arg6 : Memref sig .tc .smem S1x4096 .i32) (harg6 : arg6.IsWhole)

/-- The last whole-buffer piece is what the buffer reads, whatever lies below it. -/
theorem read_last {κ : Kind} {sp : Space} {s : Shape} {e : EltTy} (v : View sig κ sp s e) (f : v.ty.Contents (Elt F)) (x : s.Idx → Elt F e)
    (L : List (View.Piece (Elt F) s e)) : v.read (Elt F) (v.writes (Elt F) f (⟨Rect.whole s, x⟩ :: L)) = x := by
  funext y
  have h := View.read_writes_cons_emb v f (Rect.whole s) x L y
  rwa [Rect.emb_whole_apply] at h

/-- The timestep vector made at the first point: the program's initial words, then the two tables' overwrites. -/
theorem part3_run (k0_h1 : k0_cond1 i = 1#1) (f1 : Buf (Elt F) (arg1.view.loc (c : Thread nD τ))) (f2 : Buf (Elt F) (arg2.view.loc (c : Thread nD τ)))
    (hr1 : InRange (toks (arg1.view.read (Elt F) f1))) (hr2 : InRange (toks (arg2.view.read (Elt F) f2)))
    (f5 : Buf (Elt F) (arg5.view.loc (c : Thread nD τ))) (f6 : Buf (Elt F) (arg6.view.loc (c : Thread nD τ)))
    (W : Waits sig Unit) :
    iprop((arg1.view.loc (c : Thread nD τ) ↦[arg1.view.set]{fullShare} f1)
      ∗ (arg2.view.loc (c : Thread nD τ) ↦[arg2.view.set]{fullShare} f2)
      ∗ (arg5.view.loc (c : Thread nD τ) ↦[arg5.view.set]{fullShare} f5)
      ∗ (arg6.view.loc (c : Thread nD τ) ↦[arg6.view.set]{fullShare} f6)
      ∗ semVal ((c : Thread nD τ), SemLoc.dma 4) 0 ∗ semVal ((c : Thread nD τ), SemLoc.dma 5) 0
      ∗ owes (c : Thread nD τ) 0 W : sProp 𝕄)
    ⊢ wp frame (wpE (defs₀ (F := F)) Variants.none (c : Thread nD τ) none) Set.univ
        (k0_part3 i arg1 harg1 arg2 harg2 arg3 harg3 arg4 harg4 arg5 harg5 arg6 harg6 cc0_scoped0 cc0_scoped1 k0_h1) (fun _ =>
          iprop((arg1.view.loc (c : Thread nD τ) ↦[arg1.view.set]{fullShare} f1)
            ∗ (arg2.view.loc (c : Thread nD τ) ↦[arg2.view.set]{fullShare} f2)
            ∗ owns (c : Thread nD τ) arg5 fullShare (row (stamps (toks (arg1.view.read (Elt F) f1)) (toks (arg2.view.read (Elt F) f2))))
            ∗ (∃ d, owns (c : Thread nD τ) arg6 fullShare d)
            ∗ semVal ((c : Thread nD τ), SemLoc.dma 4) 0 ∗ semVal ((c : Thread nD τ), SemLoc.dma 5) 0
            ∗ (∃ W', owes (c : Thread nD τ) 0 W'))) := by
  simp only [k0_part3_eq_skeleton]; unfold k0_part3_skel
  iintro ⟨H1, H2, H5, H6, Hq4, Hq5, HW⟩
  sl_exec
  sl_for (inv1 c arg1 arg6 f1 base) $$ [H1 H6]
  case region => exact step1 c i arg1 harg1 arg2 harg2 arg3 harg3 arg4 harg4 arg5 harg5 arg6 harg6 cc0_scoped0 cc0_scoped1 k0_h1 f1 hr1 _
  · unfold inv1
    isplitl [H1]; · iexact H1
    unfold owns
    iexists _
    isplitr [H6]
    rotate_left
    · iexact H6
    · ipureintro
      refine (read_last _ _ _ _).trans ?_
      unfold part3_run.sl.dma2 part3_run.sl.H5_1
      exact (View.read_writes_full _ _ _ _ _).trans pay3_row
  iintro %_ HI
  unfold inv1
  icases HI with ⟨H1, H6⟩
  sl_for (inv2 c arg2 arg6 f2 (rows (toks (arg1.view.read (Elt F) f1)) base 64)) $$ [H2 H6]
  case region => exact step2 c i arg1 harg1 arg2 harg2 arg3 harg3 arg4 harg4 arg5 harg5 arg6 harg6 cc0_scoped0 cc0_scoped1 k0_h1 f2 hr2 _
  · unfold inv2
    isplitl [H2]; · iexact H2
    iexact H6
  iintro %_ HI
  unfold inv2
  icases HI with ⟨H2, H6⟩
  unfold owns
  icases H6 with ⟨%g6, %h6, H6⟩
  sl_exec
  sl_step
  isplitl [H1]; · iexact H1
  isplitl [H2]; · iexact H2
  isplitl [H5]
  · iexists _
    isplitr [H5]
    rotate_left
    · iexact H5
    · ipureintro
      refine (read_last _ _ _ _).trans ?_
      unfold part3_run.sl.dma0
      exact h6
  isplitl [H6]
  · iexists arg6.view.read (Elt F) g6
    iexists g6
    isplitr [H6]
    rotate_left
    · iexact H6
    · ipureintro; rfl
  isplitl [Hq4]; · iexact Hq4
  isplitl [Hq5]; · iexact Hq5
  iexists _; iexact HW

/-- The scratch between points: the comparison matrix and the timestep vector hold what the tables make of them,
or anything before the first point has run (`fresh`); the vector's scalar copy holds anything. -/
def kept (g : Stamps) (fresh : Prop) : sProp 𝕄 :=
  iprop((∃ x4, ⌜fresh ∨ x4 = k0_pay1 (F := F) (row g)⌝ ∗ owns (c : Thread nD τ) arg4 fullShare x4)
    ∗ (∃ x5, ⌜fresh ∨ x5 = row g⌝ ∗ owns (c : Thread nD τ) arg5 fullShare x5)
    ∗ (∃ x6, owns (c : Thread nD τ) arg6 fullShare x6))

/-- The whole body at any point: the first makes the scratch, every point writes its block of the mask from it. -/
theorem body_run (x1 x2 : S64x8.Idx → BitVec 32) (hr1 : InRange (toks x1)) (hr2 : InRange (toks x2)) (W : Waits sig Unit)
    (K : PUnit → sProp 𝕄) :
    iprop(owns (c : Thread nD τ) arg1 fullShare x1 ∗ owns (c : Thread nD τ) arg2 fullShare x2
      ∗ (∃ x3, owns (c : Thread nD τ) arg3 fullShare x3)
      ∗ kept c arg4 arg5 arg6 (stamps (toks x1) (toks x2)) (k0_cond1 i = 1#1)
      ∗ semVal ((c : Thread nD τ), SemLoc.dma 4) 0 ∗ semVal ((c : Thread nD τ), SemLoc.dma 5) 0
      ∗ owes (c : Thread nD τ) 0 W
      ∗ (owns (c : Thread nD τ) arg1 fullShare x1 ∗ owns (c : Thread nD τ) arg2 fullShare x2
          ∗ owns (c : Thread nD τ) arg3 fullShare (k0_pay2 (F := F) (fun y => row (stamps (toks x1) (toks x2))
              ((Rect.unit (s := S1x4096) (k0_off33 i) S1x512.size (k0_off33_inb i)).toLoadRect.idx y))
              (k0_pay1 (row (stamps (toks x1) (toks x2)))))
          ∗ kept c arg4 arg5 arg6 (stamps (toks x1) (toks x2)) False
          ∗ semVal ((c : Thread nD τ), SemLoc.dma 4) 0 ∗ semVal ((c : Thread nD τ), SemLoc.dma 5) 0
          ∗ (∃ W', owes (c : Thread nD τ) 0 W') -∗ K ⟨⟩) : sProp 𝕄)
    ⊢ wp frame (wpE (defs₀ (F := F)) Variants.none (c : Thread nD τ) none) Set.univ
        (cc0__tc_body i arg1 harg1 arg2 harg2 arg3 harg3 arg4 harg4 arg5 harg5 arg6 harg6 cc0_scoped0 cc0_scoped1) K := by
  simp only [cc0__tc_body_eq_skeleton]; unfold cc0__tc_body_skel
  dsimp only
  by_cases h : k0_cond1 i = 1#1
  · rw [dif_pos h, wp_bind]
    unfold kept
    iintro ⟨H1, H2, ⟨%x3, H3⟩, ⟨⟨%x4, -, H4⟩, ⟨%x5, -, H5⟩, ⟨%x6, H6⟩⟩, Hq4, Hq5, HW, Hk⟩
    unfold owns
    icases H1 with ⟨%f1, %h1, H1⟩
    icases H2 with ⟨%f2, %h2, H2⟩
    icases H3 with ⟨%f3, %h3, H3⟩
    icases H4 with ⟨%f4, %h4, H4⟩
    icases H5 with ⟨%f5, %h5, H5⟩
    icases H6 with ⟨%f6, %h6, H6⟩
    subst h1 h2
    iapply (wp_wand_r Idealize.ShloMosaic.frame (wpE (defs₀ (F := F)) Variants.none (c : Thread nD τ) none) Set.univ)
    isplitl [H1 H2 H5 H6 Hq4 Hq5 HW]
    · iapply (part3_run c i arg1 harg1 arg2 harg2 arg3 harg3 arg4 harg4 arg5 harg5 arg6 harg6 h f1 f2 hr1 hr2 f5 f6 W)
      isplitl [H1]; · iexact H1
      isplitl [H2]; · iexact H2
      isplitl [H5]; · iexact H5
      isplitl [H6]; · iexact H6
      isplitl [Hq4]; · iexact Hq4
      isplitl [Hq5]; · iexact Hq5
      iexact HW
    iintro %_ ⟨H1, H2, H5, H6, Hq4, Hq5, ⟨%W', HW⟩⟩
    unfold owns
    icases H5 with ⟨%g5, %h5, H5⟩
    sl_exec
    sl_step
    iapply Hk
    isplitl [H1]; · iexists f1; isplitr [H1]; (· ipureintro; rfl); iexact H1
    isplitl [H2]; · iexists f2; isplitr [H2]; (· ipureintro; rfl); iexact H2
    isplitl [H3]
    · iexists _
      isplitr [H3]
      rotate_left
      · iexact H3
      · ipureintro
        exact (View.read_writes_full _ _ _ _ _).trans (congrArg₂ k0_pay2
          (funext fun y => (View.readAt_apply ..).trans (congrFun h5 _)) (by
            unfold body_run.sl.v14 body_run.sl.H4_1
            exact (View.readCov_full _ _ _ _ _).trans (congrArg k0_pay1 ((View.readAt_full ..).trans h5))))
    isplitl [H4 H5 H6]
    · isplitl [H4]
      · iexists _
        isplitr [H4]
        · ipureintro; exact .inr rfl
        · iexists _
          isplitr [H4]
          rotate_left
          · iexact H4
          · ipureintro; exact ((View.read_writes_full _ _ _ _ _).trans (congrArg k0_pay1 ((View.readAt_full ..).trans h5)))
      · isplitl [H5]
        · iexists _
          isplitr [H5]
          · ipureintro; exact .inr rfl
          · iexists _
            isplitr [H5]
            rotate_left
            · iexact H5
            · ipureintro; exact h5
        · iexact H6
    isplitl [Hq4]; · iexact Hq4
    isplitl [Hq5]; · iexact Hq5
    iexists _; iexact HW
  · rw [dif_neg h]
    unfold kept owns
    iintro ⟨H1, H2, ⟨%x3, %f3, %h3, H3⟩, ⟨⟨%x4, %e4, %f4, %h4, H4⟩, ⟨%x5, %e5, %f5, %h5, H5⟩, H6⟩, Hq4, Hq5, HW, Hk⟩
    sl_exec
    sl_step
    have g4 := h4.trans (e4.resolve_left h)
    have g5 := h5.trans (e5.resolve_left h)
    iapply Hk
    isplitl [H1]; · iexact H1
    isplitl [H2]; · iexact H2
    isplitl [H3]
    · iexists _
      isplitr [H3]
      rotate_left
      · iexact H3
      · ipureintro
        exact (View.read_writes_full _ _ _ _ _).trans (congrArg₂ k0_pay2
          (funext fun y => (View.readAt_apply ..).trans (congrFun g5 _)) ((View.readAt_full ..).trans g4))
    isplitl [H4 H5 H6]
    · isplitl [H4]
      · iexists _
        isplitr [H4]
        · ipureintro; exact .inr rfl
        · iexists _
          isplitr [H4]
          rotate_left
          · iexact H4
          · ipureintro; exact g4
      · isplitl [H5]
        · iexists _
          isplitr [H5]
          · ipureintro; exact .inr rfl
          · iexists _
            isplitr [H5]
            rotate_left
            · iexact H5
            · ipureintro; exact g5
        · iexact H6
    isplitl [Hq4]; · iexact Hq4
    isplitl [Hq5]; · iexact Hq5
    iexists _; iexact HW

end Body
end Cert.KernelIdeal.Hand
end
-- ==== Proof.Frame.lean ====
/-
  The mask kernel's launch: the pipeline's proof data around `body_run`, and the frame — every run ends, the four
  arguments as they were and every semaphore counter at zero — where the two tables name tokens.
-/
module

public import proofs.«01_k».proof.Proof.Run
public import proofs.«01_k».proof.Proof.Gen.KernelIdeal.Frame
public import Idealize.ShloMosaic.Lib.Pipeline.Frame
public import Idealize.ShloMosaic.Lib.Memref

@[expose] public section

set_option maxRecDepth 16384

noncomputable section

namespace Cert.KernelIdeal.Hand

open Cert.KernelIdeal Cert.KernelIdeal.Gen Cert.Mask
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays -/

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The state table and the action table, as launched. -/
abbrev tabS (c : Dev nD) : S64x8.Idx → BitVec 32 := m ((c : Thread nD τ).loc main_arg2)
abbrev tabA (c : Dev nD) : S64x8.Idx → BitVec 32 := m ((c : Thread nD τ).loc main_arg3)

/-- Both tables name tokens. -/
def Tables : Prop := ∀ c : Dev nD, InRange (toks (tabS m c)) ∧ InRange (toks (tabA m c))

/-- Each token's timestep, from the tables as launched. -/
abbrev ts (c : Dev nD) : Stamps := stamps (toks (tabS m c)) (toks (tabA m c))

/-- A table's one block is the table. -/
theorem blk_S (c : Dev nD) (t : Fin cfg0.N) : iblk m c 0 t = tabS m c := by
  funext y
  refine congrArg (tabS m c) (funext fun a => Fin.ext ?_)
  fin_cases a
  · show 0 * 64 + 1 * (y 0).val = (y 0).val; omega
  · show 0 * 8 + 1 * (y 1).val = (y 1).val; omega

theorem blk_A (c : Dev nD) (t : Fin cfg0.N) : iblk m c 1 t = tabA m c := by
  funext y
  refine congrArg (tabA m c) (funext fun a => Fin.ext ?_)
  fin_cases a
  · show 0 * 64 + 1 * (y 0).val = (y 0).val; omega
  · show 0 * 8 + 1 * (y 1).val = (y 1).val; omega

/-! ## The invariant between points -/

/-- The kernel's own buffers: the comparison matrix, the timestep vector and the vector's scalar-memory copy. -/
abbrev sc4 : Memref sig .tc .vmem S64x4096 .bf16 := Memref.whole cc0_scratch0
abbrev sc5 : Memref sig .tc .vmem S1x4096 .i32 := Memref.whole cc0_scratch1
abbrev sc6 : Memref sig .tc .smem S1x4096 .i32 := Memref.whole cc0_scratch2

/-- The two transfers' cells. -/
def osem0 : Fin 2 → SemLoc sig := fun j => (![SemLoc.dma 4, SemLoc.dma 5]) j
theorem ownSemFacts0 : Pipeline.OwnSemFacts spec0 osem0 := by decide

def H0 : Finset (Ref sig .tc) := ∅
theorem H0_sub : H0 ⊆ Pipeline.restRefs sig spec0 := Finset.empty_subset _

/-- What the region holds of its own at contents `g`: the scratch, the generator register, its two cells at zero. -/
def inv (c : Dev nD) (g : Stamps) (fresh : Prop) : sProp 𝕄 :=
  iprop(kept c sc4 sc5 sc6 g fresh ∗ (∃ r, prngReg c r)
    ∗ (semVal ((c : Thread nD τ), SemLoc.dma 4) 0 ∗ semVal ((c : Thread nD τ), SemLoc.dma 5) 0)
    ∗ bigSep H0 fun b => ((c : Thread nD τ).loc b) ↦{fullShare} V m c b)

theorem kept_mono (c : Dev nD) (g : Stamps) {A B : Prop} (h : A → B) : kept (F := F) c sc4 sc5 sc6 g A ⊢ kept (F := F) c sc4 sc5 sc6 g B := by
  unfold kept
  iintro ⟨⟨%x4, %h4, H4⟩, ⟨%x5, %h5, H5⟩, H6⟩
  isplitl [H4]
  · iexists x4; isplitr [H4]; (· ipureintro; exact h4.imp_left h); iexact H4
  isplitl [H5]
  · iexists x5; isplitr [H5]; (· ipureintro; exact h5.imp_left h); iexact H5
  iexact H6

theorem own_cells (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) :=
  (Pipeline.ownSems0_eq_of_list c osem0 [0, 1] (by decide) (by decide)).trans rfl

theorem inv_in (c : Dev nD) (g : Stamps) (fresh : Prop) (h : fresh) : Pipeline.ΦD osem0 spec0 H0 (V m) c ⊢ inv m c g fresh := by
  rw [Pipeline.ΦD_eq, scopedRest0_eq, own_cells]
  unfold inv kept
  iintro ⟨⟨⟨%f4, H4⟩, ⟨%f5, H5⟩, ⟨%f6, H6⟩⟩, Hg, Hq, Hh⟩
  isplitl [H4 H5 H6]
  · isplitl [H4]
    · iexists f4; isplitr [H4]; (· ipureintro; exact .inl h)
      simp only [owns_whole]; iexact H4
    isplitl [H5]
    · iexists f5; isplitr [H5]; (· ipureintro; exact .inl h)
      simp only [owns_whole]; iexact H5
    iexists f6; simp only [owns_whole]; iexact H6
  isplitl [Hg]; · iexact Hg
  isplitl [Hq]; · iexact Hq
  iexact Hh

theorem inv_out (c : Dev nD) (g : Stamps) (fresh : Prop) : inv m c g fresh ⊢ Pipeline.ΦD osem0 spec0 H0 (V m) c := by
  rw [Pipeline.ΦD_eq, scopedRest0_eq, own_cells]
  unfold inv kept
  simp only [owns_whole]
  iintro ⟨⟨⟨%f4, -, H4⟩, ⟨%f5, -, H5⟩, ⟨%f6, H6⟩⟩, Hg, Hq, Hh⟩
  isplitl [H4 H5 H6]
  · isplitl [H4]; · iexists f4; iexact H4
    isplitl [H5]; · iexists f5; iexact H5
    iexists f6; iexact H6
  isplitl [Hg]; · iexact Hg
  isplitl [Hq]; · iexact Hq
  iexact Hh

/-! ## The proof data -/

/-- The block of the mask a point writes. -/
def outAt (c : Dev nD) (t : Fin cfg0.N) : FVec F S512x4096 .f32 :=
  k0_pay2 (F := F) (fun y => row (ts m c) ((Rect.unit (s := S1x4096) (k0_off33 (grid0.coords t)) S1x512.size (k0_off33_inb (grid0.coords t))).toLoadRect.idx y))
    (k0_pay1 (row (ts m c)))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := inv m c (ts m c) (t.val = 0)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- The guard holds at the first point. -/
theorem cond_first (t : Fin cfg0.N) (h : t.val = 0) : k0_cond1 (grid0.coords t) = 1#1 := by
  have e : t = t0_0 := Fin.ext h
  subst e; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (hT : Tables m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2, blk_S, blk_A]
  simp only [before0_0, before0_1, blk_S, blk_A]
  rw [show (dats m 0 c).Φ t.succ = inv m c (ts m c) (t.succ.val = 0) from rfl,
    show (dats m 0 c).Φ t.castSucc = inv m c (ts m c) (t.castSucc.val = 0) from rfl]
  unfold Dat.owesAt Pipeline.owesWithin
  rw [show (dats m 0 c).owed t.castSucc = 0 from rfl, show (dats m 0 c).owed t.succ = 0 from rfl]
  unfold inv
  iintro ⟨⟨HS, Hg, ⟨Hq4, Hq5⟩, Hh⟩, ⟨%W, -, HW⟩, ⟨%d0, H0⟩, ⟨%d1, H1⟩, ⟨%d2, H2⟩⟩
  iapply (body_run c (grid0.coords t) _ _ _ _ _ _ sc4 (Memref.isWhole_whole _) sc5 (Memref.isWhole_whole _) sc6 (Memref.isWhole_whole _)
    (tabS m c) (tabA m c) (hT c).1 (hT c).2 W _)
  isplitl [H0]; · iexact H0
  isplitl [H1]; · iexact H1
  isplitl [H2]; · iexists _; iexact H2
  isplitl [HS]; · iapply (kept_mono c (ts m c) (fun h => cond_first t h)); iexact HS
  isplitl [Hq4]; · iexact Hq4
  isplitl [Hq5]; · iexact Hq5
  isplitl [HW]; · iexact HW
  iintro ⟨H0, H1, H2, HS, Hq4, Hq5, ⟨%W', HW'⟩⟩
  isplitl [HS Hg Hq4 Hq5 Hh]
  · isplitl [HS]; · iapply (kept_mono c (ts m c) False.elim); iexact HS
    isplitl [Hg]; · iexact Hg
    isplitl [Hq4 Hq5]
    · isplitl [Hq4]; · iexact Hq4
      iexact Hq5
    iexact Hh
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (hT : Tables m) (c : Dev nD) : BodyObligation (dats (F := F) m 0 c) (defs₀ (F := F)) Variants.none () Set.univ := fun t => by
  rw [bigSep_W0, bigSep_W0, defs₀_row]
  exact triple_restated (sound_body m hT c t) rfl .rfl fun _ => .rfl

/-! ## The run and the frame -/

set_option backward.isDefEq.respectTransparency.types false in
theorem run_main (hT : Tables m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m) (hmain := hmain m Variants.none) (hA := A_eq m)
    (hin := fun c => inv_in m c _ _ rfl) (hout := fun c => inv_out m c _ _)

/-- Every run ends with the arguments as they were, the counters at zero and the mask as the proof data leave it. -/
theorem run_ends (hT : Tables m) : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 2,
      ((h.1 c).2 main_arg0 (Pipeline.mem_restRefs_of main_arg0 (by decide) (by decide))),
      ((h.1 c).2 main_arg1 (Pipeline.mem_restRefs_of main_arg1 (by decide) (by decide))),
      ((h.1 c).1 0).trans (((dats m 0 c).arrAt_in 0 rfl _).trans (A_eq m c 0)),
      ((h.1 c).1 1).trans (((dats m 0 c).arrAt_in 1 rfl _).trans (A_eq m c 1))⟩, h.2⟩) (run_main m ρ hT)

end Cert.KernelIdeal.Hand

end
-- ==== Proof.Value.lean ====
/-
  What the mask kernel's result holds on the extended reals: at a row `r` and a column `p` one where token `p` has a
  timestep and `r`'s is not earlier, zero elsewhere. The product of the one-hot matrix of the rows' timesteps with the
  comparison matrix picks, of the 64 timesteps, the row's own.
-/
module

public import proofs.«01_k».proof.Proof.Frame
public import Idealize.ShloMosaic.Lib.Pipeline.Value
public import Idealize.ShloMosaic.Lib.Pointwise
public import Idealize.ShloMosaic.PureOps.Ideal.Laws

@[expose] public section

set_option maxRecDepth 16384

noncomputable section

namespace Cert.Mask
open Idealize.ShloMosaic

/-- The mask of a timestep table: token `r` sees token `p`. -/
def mask (g : Stamps) (r p : Fin 4096) : EReal :=
  if (g r).toNat < 64 ∧ (g p).toNat < 64 ∧ (g p).toNat ≤ (g r).toNat then 1 else 0

end Cert.Mask

namespace Cert.KernelIdeal.Hand

open Cert.KernelIdeal Cert.KernelIdeal.Gen Cert.Mask
open Idealize.ShloMosaic Idealize.ShloMosaic.TcCoe Idealize.ShloMosaic.WordCmp
open Idealize.SL Idealize.SL.Sem
open Idealize.ShloMosaic.Pipeline (Dat Cfg Window)

/-- A comparison's bit as the number the program makes of it. -/
theorem bit_val (φ : FTy) (b : BitVec 1) : (FloatOps.sitofp (F := Ideal) φ (b.setWidth 32) : EReal) = if b = 1#1 then 1 else 0 := by
  have h : b = 0#1 ∨ b = 1#1 := by revert b; decide
  rcases h with rfl | rfl
  · rw [if_neg (by decide)]
    show (((((0#1).setWidth 32 : BitVec 32).toInt : ℤ) : ℝ) : EReal) = 0
    rw [show ((0#1).setWidth 32 : BitVec 32).toInt = 0 from by decide]; simp
  · rw [if_pos rfl]
    show (((((1#1).setWidth 32 : BitVec 32).toInt : ℤ) : ℝ) : EReal) = 1
    rw [show ((1#1).setWidth 32 : BitVec 32).toInt = 1 from by decide]; simp

/-- The comparison matrix: timestep `k` is not earlier than token `p`'s, which has one. -/
theorem pay1_at (g : Stamps) (hg : ∀ p, Stamp (g p)) (k : Fin 64) (p : Fin 4096) :
    k0_pay1 (F := Ideal) (row g) (ix2 k p) = if (g p).toNat < 64 ∧ (g p).toNat ≤ k.val then 1 else 0 := by
  unfold k0_pay1
  pointwise
  rw [bit_val]
  show (if IntOp.andi (IntOp.cmpi CmpIPredicate.sge (BitVec.ofNat 32 k.val) (g p)) (IntOp.cmpi CmpIPredicate.sge (g p) 0#32) = 1#1 then (1 : EReal) else 0) = _
  refine if_congr ?_ rfl rfl
  have hk := k.isLt
  rcases hg p with h | h
  · rw [show IntOp.cmpi CmpIPredicate.sge (BitVec.ofNat 32 k.val) (g p) = IntOp.cmpi .sge (BitVec.ofNat 32 k.val) (BitVec.ofNat 32 (g p).toNat) from by
        rw [BitVec.ofNat_toNat, BitVec.setWidth_eq],
      show IntOp.cmpi CmpIPredicate.sge (g p) 0#32 = IntOp.cmpi .sge (BitVec.ofNat 32 (g p).toNat) (BitVec.ofNat 32 0) from by
        rw [BitVec.ofNat_toNat, BitVec.setWidth_eq]]
    generalize (g p).toNat = n at *
    rw [IntOp.andi_eq_one, cmpi_sge_ofNat_eq_one_iff (w := 32) (a := k.val) (b := n) (by omega) (by omega),
      cmpi_sge_ofNat_eq_one_iff (w := 32) (a := n) (b := 0) (by omega) (by omega)]
    omega
  · rw [h]
    constructor
    · intro hh
      exact absurd hh (by
        have e : IntOp.cmpi CmpIPredicate.sge (4294967295#32) 0#32 = 0#1 := by decide
        rw [e]
        generalize IntOp.cmpi CmpIPredicate.sge (BitVec.ofNat 32 k.val) (4294967295#32) = b
        revert b; decide)
    · rintro ⟨h1, -⟩
      exact absurd h1 (by decide)

/-- The mask's block: the one-hot rows times the comparison matrix. -/
theorem pay2_at (v : S1x512.Idx → BitVec 32) (M : S64x4096.Idx → Ideal .bf16) (r : Fin 512) (p : Fin 4096) :
    k0_pay2 (F := Ideal) v M (ix2 r p) = ∑ k : Fin 64, (if BitVec.ofNat 32 k.val = v (ix2 0 r) then (1 : EReal) else 0) * M (ix2 k p) := by
  unfold k0_pay2
  pointwise
  refine Finset.sum_congr rfl fun k _ => ?_
  rw [bit_val]
  refine congrArg (fun x : EReal => x * M (ix2 k p)) (if_congr ?_ rfl rfl)
  exact IntOp.cmpi_eq

/-- A row's timestep picks its row of the comparison matrix: the sum is the mask's entry. -/
theorem pick (g : Stamps) (hg : ∀ p, Stamp (g p)) (r p : Fin 4096) :
    ∑ k : Fin 64, (if BitVec.ofNat 32 k.val = g r then (1 : EReal) else 0) * k0_pay1 (F := Ideal) (row g) (ix2 k p) = mask g r p := by
  unfold mask
  rcases hg r with h | h
  · rw [Finset.sum_eq_single (⟨(g r).toNat, h⟩ : Fin 64)]
    · rw [if_pos (show BitVec.ofNat 32 (g r).toNat = g r by rw [BitVec.ofNat_toNat, BitVec.setWidth_eq]), one_mul, pay1_at g hg]
      exact if_congr ⟨fun q => ⟨h, q⟩, fun q => q.2⟩ rfl rfl
    · intro k _ hk
      rw [if_neg, zero_mul]
      intro e
      refine hk (Fin.ext ?_)
      show k.val = (g r).toNat
      rw [← e, BitVec.toNat_ofNat, Nat.mod_eq_of_lt (by have := k.isLt; omega)]
    · exact fun hn => absurd (Finset.mem_univ _) hn
  · rw [if_neg (by rw [h]; rintro ⟨h1, -⟩; exact absurd h1 (by decide))]
    refine Finset.sum_eq_zero fun k _ => ?_
    rw [if_neg, zero_mul]
    intro e
    have e2 := congrArg BitVec.toNat e
    rw [h, BitVec.toNat_ofNat, Nat.mod_eq_of_lt (by have := k.isLt; omega)] at e2
    have := k.isLt
    rw [e2] at this
    exact absurd this (by decide)

/-! ## The array -/

variable (m : (ℓ : Loc nD τ sig) → Buf (Elt Ideal) ℓ)

/-- The mask of the tables as launched, as the result array. -/
def maskArr (c : Dev nD) : Buf (Elt Ideal) ((c : Thread nD τ).loc main_v0) := fun i : S4096x4096.Idx => mask (ts m c) (i 0) (i 1)

theorem off33_eq : ∀ t : Fin grid0.N, k0_off33 (grid0.coords t) = ![0, t.val * 512] := by decide +kernel

theorem blk_facts : ∀ t : Fin grid0.N, win0_2.index t 0 * win0_2.size 0 = t.val * 512 ∧ win0_2.xsize (grid0.coords t) 0 = 512
      ∧ win0_2.index t 1 * win0_2.size 1 = 0 ∧ win0_2.xsize (grid0.coords t) 1 = 4096 := by decide +kernel

/-- An index of the mask is in point `t`'s block exactly when its row is one of the block's 512. -/
theorem mem_blk (t : Fin cfg0.N) (i : S4096x4096.Idx) :
    i ∈ ((cfg0.win 2).blk t).view.set ↔ t.val * 512 ≤ (i 0 : Nat) ∧ (i 0 : Nat) < t.val * 512 + 512 := by
  show i ∈ ((View.whole main_v0).slice (win0_2.rect t)).set ↔ _
  rw [View.set_slice_whole, Rect.mem_set_unit]
  have h1 : (i 1 : Nat) < 4096 := (i 1).isLt
  have e := blk_facts t
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e.1, e.2.1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e.1, e.2.1]; exact h
    | ⟨1, _⟩ => show win0_2.index t 1 * win0_2.size 1 ≤ (i 1 : Nat) ∧ (i 1 : Nat) < win0_2.index t 1 * win0_2.size 1 + win0_2.xsize (grid0.coords t) 1
                rw [e.2.2.1, e.2.2.2]; omega

/-- The eight blocks cover the mask. -/
theorem cover (i : S4096x4096.Idx) :
    ∃ t : Fin cfg0.N, (cfg0.win 2).flush t = true ∧ i ∈ ((cfg0.win 2).blk t).view.set := by
  have h0 : (i 0 : Nat) < 4096 := (i 0).isLt
  have hN : cfg0.N = 8 := N_0
  refine ⟨⟨(i 0 : Nat) / 512, by omega⟩, flush0_2 _, ?_⟩
  rw [mem_blk]
  dsimp only
  omega

/-- A point's block, entry by entry: its rows' part of the mask. -/
theorem outAt_at (c : Dev nD) (t : Fin cfg0.N) (r : Fin 512) (p : Fin 4096) (hr : t.val * 512 + r.val < 4096) :
    outAt m c t (ix2 r p) = (mask (ts m c) ⟨t.val * 512 + r.val, hr⟩ p : EReal) := by
  unfold outAt
  refine (pay2_at _ _ r p).trans (Eq.trans ?_ (pick (ts m c) (stamps_stamp _ _) _ p))
  refine Finset.sum_congr rfl fun k _ => ?_
  refine congrArg (fun w : BitVec 32 => (if BitVec.ofNat 32 k.val = w then (1 : EReal) else 0) * k0_pay1 (F := Ideal) (row (ts m c)) (ix2 k p)) ?_
  refine congrArg (ts m c) (Fin.ext ?_)
  show k0_off33 (grid0.coords t) 1 + 1 * r.val = _
  rw [off33_eq t]
  show t.val * 512 + 1 * r.val = _
  rw [Nat.one_mul]

/-- What a point writes is its block of the mask. -/
theorem flushed_eq (c : Dev nD) (t : Fin cfg0.N) :
    (dats m 0 c).flushed 2 t = ((cfg0.win 2).blk t).view.read (Elt Ideal) (maskArr m c) := by
  show (cfg0.win 2).cut (grid0.coords t) ((dats m 0 c).after 2 t) = _
  rw [after0_2]
  have hN : cfg0.N = 8 := N_0
  have ht := t.isLt
  funext (y : S512x4096.Idx)
  have hy0 : (y 0 : Nat) < 512 := (y 0).isLt
  have hy1 : (y 1 : Nat) < 4096 := (y 1).isLt
  have e1 : ((cfg0.win 2).cut (grid0.coords t) (outAt m c t)) y = outAt m c t (ix2 ⟨y 0, hy0⟩ ⟨y 1, hy1⟩) :=
    congrArg (outAt m c t) (funext fun a => by fin_cases a <;> rfl)
  have e2 : ((cfg0.win 2).blk t).view.read (Elt Ideal) (maskArr m c) y = mask (ts m c) ⟨t.val * 512 + (y 0 : Nat), by omega⟩ ⟨y 1, hy1⟩ := by
    have b := blk_facts t
    refine congrArg₂ (mask (ts m c)) (Fin.ext ?_) (Fin.ext ?_)
    · show win0_2.index t 0 * win0_2.size 0 + 1 * (y 0 : Nat) = _
      rw [b.1, Nat.one_mul]
    · show win0_2.index t 1 * win0_2.size 1 + 1 * (y 1 : Nat) = _
      rw [b.2.2.1, Nat.one_mul, Nat.zero_add]
  rw [e1, e2]
  exact outAt_at m c t _ _ _

/-- The result array ends holding the mask. -/
theorem result_mask (c : Dev nD) : (dats m 0 c).arrAt 2 cfg0.N = maskArr m c :=
  (dats m 0 c).arrAt_eq_of_cover 2 (maskArr m c) (fun t _ => flushed_eq m c t) cover

end Cert.KernelIdeal.Hand

end
-- ==== Proof.Pre.lean ====
/-
  What the preconditions say: both tables name tokens; and, for the value, the mask buffer arrives all zero and the image tokens are
  numbered in order.
-/
module

public import proofs.«01_k».proof.Proof.Spec
public import proofs.«01_k».proof.Pre_drawn
public import proofs.«01_k».proof.Pre_tokens
public import proofs.«01_k».proof.Proof.Gen.Pre_drawn
public import proofs.«01_k».proof.Proof.Gen.Pre_tokens
public import Idealize.ShloMosaic.Lib.Pointwise
public import Idealize.ShloMosaic.Lib.ReduceAll
public import Idealize.ShloMosaic.Lib.WordCmp
public import Idealize.ShloMosaic.PureOps.Ideal.Laws

@[expose] public section

set_option maxRecDepth 16384

noncomputable section

namespace Cert.Mask

open Idealize.ShloMosaic Idealize.ShloMosaic.WordCmp
open Cert.Pre_drawn (S64x8 S64x48 S4096x4096 S_)

instance : Subsingleton S_.Idx := ⟨fun a b => funext fun i => i.elim0⟩

/-- A word between 0 and 4095, compared signed, is below 4096. -/
theorem word_in (x : BitVec 32) (h : IntOp.andi (IntOp.cmpi .sge x 0#32) (IntOp.cmpi .slt x 4096#32) = 1#1) : x.toNat < 4096 := by
  obtain ⟨h1, h2⟩ := IntOp.andi_eq_one.1 h
  have a := IntOp.cmpi_sge.1 h1
  have b := IntOp.cmpi_slt.1 h2
  rw [show (0#32 : BitVec 32).toInt = 0 from by decide] at a
  rw [show (4096#32 : BitVec 32).toInt = 4096 from by decide] at b
  rw [BitVec.toInt_eq_toNat_cond] at a b
  split at a <;> split at b <;> omega

/-- The tables' precondition, read: per entry. -/
theorem tokens_read {F : FTy → Type} [FloatOps F] [Cert.Pre_tokens.Facts] (x0 : FVec F S4096x4096 .f32) (x1 : IVec S64x48 32) (x2 x3 : IVec S64x8 32)
    (h : Cert.Pre_tokens.fn (F := F) x0 x1 x2 x3 = fun _ => 1#1) : (∀ i, (x2 i).toNat < 4096) ∧ (∀ i, (x3 i).toNat < 4096) := by
  have h' := congrFun h (fun a => a.elim0)
  unfold Cert.Pre_tokens.fn at h'
  dsimp only at h'
  obtain ⟨h1, h2⟩ := IntOp.andi_eq_one.1 h'
  exact ⟨fun i => word_in _ (Host.reduce_andi_all _ _ _ _ _ h1 i), fun i => word_in _ (Host.reduce_andi_all _ _ _ _ _ h2 i)⟩

/-- The whole precondition, read: per entry. -/
theorem drawn_read {F : FTy → Type} [FloatOps F] [Cert.Pre_drawn.Facts] (x0 : FVec F S4096x4096 .f32) (x1 : IVec S64x48 32) (x2 x3 : IVec S64x8 32)
    (h : Cert.Pre_drawn.fn x0 x1 x2 x3 = fun _ => 1#1) :
    (∀ i, FloatOps.cmpf .oeq (x0 i) (FloatOps.ofBits .f32 0#32) = 1#1)
      ∧ (∀ (t : Fin 64) (e : Fin 48), x1 (ix2 t e) = BitVec.ofNat 32 (t.val * 48 + e.val))
      ∧ (∀ i, (x2 i).toNat < 4096) ∧ (∀ i, (x3 i).toNat < 4096) := by
  have h' := congrFun h (fun a => a.elim0)
  unfold Cert.Pre_drawn.fn Cert.Pre_drawn.fn_part1 at h'
  dsimp only at h'
  obtain ⟨h1, h4⟩ := IntOp.andi_eq_one.1 h'
  obtain ⟨h1, h3⟩ := IntOp.andi_eq_one.1 h1
  obtain ⟨h1, h2⟩ := IntOp.andi_eq_one.1 h1
  refine ⟨fun i => Host.reduce_andi_all _ _ _ _ _ h1 i, fun t e => ?_, fun i => word_in _ (Host.reduce_andi_all _ _ _ _ _ h3 i),
    fun i => word_in _ (Host.reduce_andi_all _ _ _ _ _ h4 i)⟩
  have h5 := IntOp.cmpi_eq.1 (Host.reduce_andi_all _ _ _ _ _ h2 (ix2 t e))
  rw [h5]
  pointwise

/-- The mask buffer's zeros, on the extended reals. -/
theorem drawn_zero (x : EReal) (h : FloatOps.cmpf (F := Ideal) .oeq (φ := .f32) x (FloatOps.ofBits .f32 0#32) = 1#1) : x = 0 := by
  rw [show (FloatOps.ofBits (F := Ideal) .f32 0#32 : EReal) = 0 from Ideal.ofBits_zero .f32] at h
  rw [Ideal.cmpf_def] at h
  unfold Ideal.cmp at h
  by_contra hx
  rw [decide_eq_false hx] at h
  exact absurd (show BitVec.ofBool false = 1#1 from h) (by decide)

end Cert.Mask

end
-- ==== Proof.Reference.lean ====
/-
  What the reference's result holds: its three scatters leave each token's timestep, the later write winning, and its
  comparisons the mask.
-/
module

public import proofs.«01_k».proof.Proof.Value
public import proofs.«01_k».proof.Proof.Pre
public import proofs.«01_k».proof.Proof.Gen.ReferenceIdeal.Run
public import Idealize.ShloMosaic.Lib.Routing.OpsSet
public import Idealize.ShloMosaic.Lib.Routing.OpsPair

@[expose] public section

set_option maxRecDepth 16384

noncomputable section

namespace Cert.Mask

open Idealize.ShloMosaic

/-! ## The last write that lands -/

/-- The value left by `n` writes in order, write `k` landing where `h k` holds, over `a`. -/
def last (h : ℕ → Prop) [DecidablePred h] (v : ℕ → BitVec 32) (a : BitVec 32) : ℕ → BitVec 32
  | 0 => a
  | n + 1 => if h n then v n else last h v a n

theorem foldl_last (h : ℕ → Prop) [DecidablePred h] (v : ℕ → BitVec 32) (a : BitVec 32) (n : ℕ) :
    (List.finRange n).foldl (fun b i => if h i.val then v i.val else b) a = last h v a n := by
  induction n with
  | zero => rfl
  | succ n ih =>
    rw [List.finRange_succ_last, List.foldl_append, List.foldl_map]
    show (if h n then v n else (List.finRange n).foldl (fun b i => if h i.val then v i.val else b) a) = _
    rw [ih]; rfl

/-- Update `i` of a scatter of `M` words into a vector of `N` lands where its index word, read signed, says. -/
theorem lands {N M : ℕ} (d : ScatterDims (Routing.shape1 N) (Routing.shape2 M 1) (Routing.shape1 M)) (hiw : d.insertedWindowDims = [0])
    (hsd : d.scatterDimsToOperandDims = [0]) (hivd : d.indexVectorDim = 1) (idx : IVec (Routing.shape2 M 1) 32) (i : Fin M) (x : Fin N) :
    d.resultIdx? (ValueIdx.ix1 i) idx = some (ValueIdx.ix1 x) ↔ (idx (ValueIdx.ix2 i (0 : Fin 1))).toInt = (x.val : Int) := by
  have hm : (0 : Fin 1) ∈ d.scatterDimsToOperandDims := by rw [hsd]; exact List.mem_singleton.2 rfl
  have hw : d.window (ValueIdx.ix1 i) 0 = 0 := by
    unfold ScatterDims.window
    rw [dif_neg fun h => (of_decide_eq_true (List.mem_filter.1 h).2) (by rw [hiw]; exact List.mem_singleton.2 rfl)]
  have hs : d.start (ValueIdx.ix1 i) idx 0 = (idx (ValueIdx.ix2 i (0 : Fin 1))).toInt := by
    unfold ScatterDims.start
    rw [dif_pos hm]
    refine congrArg (fun y => (idx y).toInt) (funext fun b => Fin.ext ?_)
    unfold ScatterDims.siIdx
    fin_cases b
    · rw [dif_neg (by rw [hivd]; exact Nat.zero_ne_one)]
      unfold ScatterDims.siCoord
      simp only [Fin.val_cast]
      exact congrArg (fun q : Fin 1 => (ValueIdx.ix1 i q).val) (Subsingleton.elim _ (0 : Fin 1))
    · rw [dif_pos (by rw [hivd])]
      show List.idxOf (0 : Fin 1) d.scatterDimsToOperandDims = 0
      rw [hsd]; rfl
  rw [Routing.resultIdx?_ix1, hw, hs]
  simp

/-- A scatter that sets, read at an entry: the last write that lands there. -/
theorem scatter_last {N M : ℕ} (d : ScatterDims (Routing.shape1 N) (Routing.shape2 M 1) (Routing.shape1 M)) (hiw : d.insertedWindowDims = [0])
    (hsd : d.scatterDimsToOperandDims = [0]) (hivd : d.indexVectorDim = 1) (x0 : IVec (Routing.shape1 N) 32) (idx : IVec (Routing.shape2 M 1) 32)
    (upd : IVec (Routing.shape1 M) 32) (p : Fin N) (h : ℕ → Prop) [DecidablePred h] (v : ℕ → BitVec 32)
    (hh : ∀ i : Fin M, (idx (ValueIdx.ix2 i (0 : Fin 1))).toInt = (p.val : Int) ↔ h i.val) (hv : ∀ i : Fin M, upd (ValueIdx.ix1 i) = v i.val) :
    Host.scatter d (fun _ b => b) x0 idx upd (ValueIdx.ix1 p) = last h v (x0 (ValueIdx.ix1 p)) M := by
  rw [Routing.scatter_at]
  have hn := Routing.numel1 M
  rw [show last h v (x0 (ValueIdx.ix1 p)) M = last h v (x0 (ValueIdx.ix1 p)) (Routing.shape1 M).numel by rw [hn], ← foldl_last]
  refine congrArg (fun f => List.foldl f (x0 (ValueIdx.ix1 p)) (List.finRange (Routing.shape1 M).numel)) (funext fun a => funext fun n => ?_)
  rw [Routing.symm1, hv]
  exact if_congr ((lands d hiw hsd hivd idx _ p).trans (hh _)) rfl rfl

/-! ## The three scatters -/

/-- A table's entry by its place in the flattened table. -/
def tok (A : Tokens) (n : ℕ) : BitVec 32 := if h : n < 512 then A ⟨n / 8, by omega⟩ ⟨n % 8, by omega⟩ else 0

/-- A table's writes in flattened order are its rows' in order. -/
theorem last_rows (A : Tokens) (g : Stamps) (p : Fin 4096) (k e : ℕ) (hk : k < 64) (he : e ≤ 8)
    (h0 : last (fun n => (tok A n).toNat = p.val) (fun n => BitVec.ofNat 32 (n / 8)) (g p) (8 * k) = rows A g k p) :
    last (fun n => (tok A n).toNat = p.val) (fun n => BitVec.ofNat 32 (n / 8)) (g p) (8 * k + e)
      = puts (A ⟨k, hk⟩) (BitVec.ofNat 32 k) (rows A g k) e p := by
  induction e with
  | zero => exact h0
  | succ e ih =>
    have ht : tok A (8 * k + e) = A ⟨k, hk⟩ ⟨e, by omega⟩ := by
      unfold tok
      rw [dif_pos (by omega)]
      exact congrArg₂ A (Fin.ext (by show (8 * k + e) / 8 = k; omega)) (Fin.ext (by show (8 * k + e) % 8 = e; omega))
    rw [puts, dif_pos (by omega), put_at, ← ih (by omega)]
    show (if (tok A (8 * k + e)).toNat = p.val then BitVec.ofNat 32 ((8 * k + e) / 8) else _) = _
    rw [ht, show (8 * k + e) / 8 = k by omega]
    exact if_congr eq_comm rfl rfl

theorem last_table (A : Tokens) (g : Stamps) (p : Fin 4096) (k : ℕ) (hk : k ≤ 64) :
    last (fun n => (tok A n).toNat = p.val) (fun n => BitVec.ofNat 32 (n / 8)) (g p) (8 * k) = rows A g k p := by
  induction k with
  | zero => rfl
  | succ k ih =>
    rw [rows, dif_pos (by omega), rowPut]
    exact last_rows A g p k 8 (by omega) (le_refl 8) (ih (by omega))

/-- The image tokens' writes: token `n` takes timestep `n / 48`. -/
theorem last_base (p : Fin 4096) (n : ℕ) :
    last (fun k => k = p.val) (fun k => BitVec.ofNat 32 (k / 48)) 4294967295#32 n = if p.val < n then BitVec.ofNat 32 (p.val / 48) else 4294967295#32 := by
  induction n with
  | zero => rfl
  | succ n ih =>
    show (if n = p.val then _ else _) = _
    by_cases h : n = p.val
    · rw [if_pos h, if_pos (by omega), h]
    · rw [if_neg h, ih]; exact if_congr (by omega) rfl rfl

end Cert.Mask

end
-- ==== Proof.RefValue.lean ====
/-
  The reference's result, entry by entry: the mask of the three tables.
-/
module

public import proofs.«01_k».proof.Proof.Reference

@[expose] public section

set_option maxRecDepth 16384

noncomputable section

namespace Cert.ReferenceIdeal.Hand

open Cert.ReferenceIdeal Cert.ReferenceIdeal.Gen Cert.Mask
open Idealize.ShloMosaic Idealize.ShloMosaic.TcCoe Idealize.ShloMosaic.WordCmp
open Cert.KernelIdeal.Hand (toks)

/-- A flattened table's entries as indices: a negative one counts from the end. -/
def idx8 (T : IVec S64x8 32) : IVec S512x1 32 :=
  broadcastInDim S512x1 ![0] bcast_S512_S512x1_0 (select (cmpi .slt (shapeCast _ T shapeCasts_S64x8_S512) (broadcastInDim S512 ![] bcast_S_S512 (constantI S_ 32 0#32)))
    (addi (shapeCast _ T shapeCasts_S64x8_S512) (broadcastInDim S512 ![] bcast_S_S512 (constantI S_ 32 4096#32))) (shapeCast _ T shapeCasts_S64x8_S512))

/-- Each entry's timestep, flattened. -/
def upd8 : IVec S512 32 :=
  shapeCast _ (broadcastInDim S64x8 ![0, 1] bcast_S64x1_S64x8_0_1 (broadcastInDim S64x1 ![0] bcast_S64_S64x1_0 (iotaInDim S64 32 0))) shapeCasts_S64x8_S512

def idx48 (T : IVec S64x48 32) : IVec S3072x1 32 :=
  broadcastInDim S3072x1 ![0] bcast_S3072_S3072x1_0 (select (cmpi .slt (shapeCast _ T shapeCasts_S64x48_S3072) (broadcastInDim S3072 ![] bcast_S_S3072 (constantI S_ 32 0#32)))
    (addi (shapeCast _ T shapeCasts_S64x48_S3072) (broadcastInDim S3072 ![] bcast_S_S3072 (constantI S_ 32 4096#32))) (shapeCast _ T shapeCasts_S64x48_S3072))

def upd48 : IVec S3072 32 :=
  shapeCast _ (broadcastInDim S64x48 ![0, 1] bcast_S64x1_S64x48_0_1 (broadcastInDim S64x1 ![0] bcast_S64_S64x1_0 (iotaInDim S64 32 0))) shapeCasts_S64x48_S3072

/-- The reference's timestep vector. -/
def refTs (x1 : IVec S64x48 32) (x2 x3 : IVec S64x8 32) : IVec S4096 32 :=
  Host.scatter scatter_S4096_S512x1_S512_n_0_0_1 (fun _ b => b) (Host.scatter scatter_S4096_S512x1_S512_n_0_0_1 (fun _ b => b)
    (Host.scatter scatter_S4096_S3072x1_S3072_n_0_0_1 (fun _ b => b) (broadcastInDim S4096 ![] bcast_S_S4096 (constantI S_ 32 4294967295#32)) (idx48 x1) upd48)
    (idx8 x2) upd8) (idx8 x3) upd8

/-- The reference's result from the timestep vector. -/
def refMask (g : IVec S4096 32) (x0 : FVec Ideal S4096x4096 .f32) : FVec Ideal S4096x4096 .f32 :=
  select (andi (andi (cmpi .sge (broadcastInDim S4096x4096 ![0, 1] bcast_S4096x1_S4096x4096_0_1 (broadcastInDim S4096x1 ![0] bcast_S4096_S4096x1_0 g))
      (broadcastInDim S4096x4096 ![0, 1] bcast_S1x4096_S4096x4096_0_1 (broadcastInDim S1x4096 ![1] bcast_S4096_S1x4096_1 g)))
      (broadcastInDim S4096x4096 ![0, 1] bcast_S4096x1_S4096x4096_0_1 (broadcastInDim S4096x1 ![0] bcast_S4096_S4096x1_0
        (cmpi .sge g (broadcastInDim S4096 ![] bcast_S_S4096 (constantI S_ 32 0#32))))))
      (broadcastInDim S4096x4096 ![0, 1] bcast_S1x4096_S4096x4096_0_1 (broadcastInDim S1x4096 ![1] bcast_S4096_S1x4096_1
        (cmpi .sge g (broadcastInDim S4096 ![] bcast_S_S4096 (constantI S_ 32 0#32))))))
    (broadcastInDim S4096x4096 ![] bcast_S_S4096x4096 (constant S_ .f32 0x3F800000#32)) x0

theorem result_eq (m : (ℓ : Loc nD τ sig) → Buf (Elt Ideal) ℓ) (c : Dev nD) :
    Cert.ReferenceIdeal.Value.res_main_v50 m c = refMask (refTs (m ((c.tc : Thread nD τ).loc main_arg1)) (m ((c.tc : Thread nD τ).loc main_arg2)) (m ((c.tc : Thread nD τ).loc main_arg3)))
      (m ((c.tc : Thread nD τ).loc main_arg0)) := rfl

theorem upd8_at (i : Fin 512) : upd8 (ValueIdx.ix1 i) = BitVec.ofNat 32 (i.val / 8) := by
  unfold upd8
  pointwise

theorem upd48_at (i : Fin 3072) : upd48 (ValueIdx.ix1 i) = BitVec.ofNat 32 (i.val / 48) := by
  unfold upd48
  pointwise

/-- A token's number is not negative, so it is the index itself. -/
theorem idx8_at (T : IVec S64x8 32) (hT : InRange (toks T)) (i : Fin 512) : idx8 T (ValueIdx.ix2 i (0 : Fin 1)) = tok (toks T) i.val := by
  unfold idx8
  pointwise
  refine (Routing.wrap_of_lt _ _ (lt_trans (hT ⟨i.val / 8, by omega⟩ ⟨i.val % 8, by omega⟩) (by decide))).trans ?_
  unfold tok
  rw [dif_pos i.isLt]

theorem idx48_at (T : IVec S64x48 32) (hT : ∀ (t : Fin 64) (e : Fin 48), T (ix2 t e) = BitVec.ofNat 32 (t.val * 48 + e.val)) (i : Fin 3072) :
    idx48 T (ValueIdx.ix2 i (0 : Fin 1)) = BitVec.ofNat 32 i.val := by
  unfold idx48
  pointwise
  have e : T (ix2 (⟨i.val / 48, by omega⟩ : Fin 64) (⟨i.val % 48, by omega⟩ : Fin 48)) = BitVec.ofNat 32 i.val := by
    rw [hT]; exact congrArg (BitVec.ofNat 32) (by show i.val / 48 * 48 + i.val % 48 = i.val; omega)
  refine Eq.trans ?_ e
  refine Routing.wrap_of_lt _ _ ?_
  refine lt_of_eq_of_lt (congrArg BitVec.toNat e) ?_
  rw [BitVec.toNat_ofNat]
  have := i.isLt
  omega

/-- A word below 4096 read signed. -/
theorem toInt_lt (x : BitVec 32) (h : x.toNat < 4096) (p : ℕ) : x.toInt = (p : Int) ↔ x.toNat = p := by
  rw [BitVec.toInt_eq_toNat_cond, if_pos (by omega)]
  omega

theorem tok_lt (A : Tokens) (hA : InRange A) (n : ℕ) : (tok A n).toNat < 4096 := by
  unfold tok
  split
  · exact hA _ _
  · decide

/-- A table's scatter leaves the timesteps its rows write in order. -/
theorem table_at (T : IVec S64x8 32) (hT : InRange (toks T)) (x0 : IVec S4096 32) (g : Stamps) (hg : ∀ p, x0 (ValueIdx.ix1 p) = g p) (p : Fin 4096) :
    Host.scatter scatter_S4096_S512x1_S512_n_0_0_1 (fun _ b => b) x0 (idx8 T) upd8 (ValueIdx.ix1 p) = rows (toks T) g 64 p := by
  rw [← last_table (toks T) g p 64 (le_refl _), ← hg p]
  exact scatter_last (N := 4096) (M := 512) scatter_S4096_S512x1_S512_n_0_0_1 rfl rfl rfl x0 (idx8 T) upd8 p _ _
    (fun i => by rw [idx8_at T hT, toInt_lt _ (tok_lt _ hT _)]) (fun i => upd8_at i)

/-- The reference's timestep vector is the rows' writes in order. -/
theorem refTs_at (x1 : IVec S64x48 32) (x2 x3 : IVec S64x8 32) (h1 : ∀ (t : Fin 64) (e : Fin 48), x1 (ix2 t e) = BitVec.ofNat 32 (t.val * 48 + e.val))
    (h2 : InRange (toks x2)) (h3 : InRange (toks x3)) (p : Fin 4096) : refTs x1 x2 x3 (ValueIdx.ix1 p) = stamps (toks x2) (toks x3) p := by
  unfold refTs stamps
  refine table_at x3 h3 _ _ (fun q => table_at x2 h2 _ base (fun q' => ?_) q) p
  refine (scatter_last (N := 4096) (M := 3072) scatter_S4096_S3072x1_S3072_n_0_0_1 rfl rfl rfl _ (idx48 x1) upd48 q' (fun k => k = q'.val) (fun k => BitVec.ofNat 32 (k / 48))
    (fun i => ?_) (fun i => upd48_at i)).trans (last_base q' 3072)
  have := i.isLt
  rw [idx48_at x1 h1, toInt_lt _ (by rw [BitVec.toNat_ofNat]; omega), BitVec.toNat_ofNat, Nat.mod_eq_of_lt (by omega)]

theorem toInt_small (x : BitVec 32) (h : x.toNat < 64) : x.toInt = (x.toNat : Int) := by
  rw [BitVec.toInt_eq_toNat_cond, if_pos (by omega)]

/-- A timestep or -1, not negative. -/
theorem stamp_sge (x : BitVec 32) (hx : Stamp x) : IntOp.cmpi .sge x 0#32 = 1#1 ↔ x.toNat < 64 := by
  rw [IntOp.cmpi_sge]
  rcases hx with h | rfl
  · rw [toInt_small x h, show (0#32 : BitVec 32).toInt = 0 from by decide]
    omega
  · decide

/-- The comparisons of a timestep vector, over a zero buffer, are the mask. -/
theorem refMask_at (g : IVec S4096 32) (G : Stamps) (hg : ∀ p, g (ValueIdx.ix1 p) = G p) (hG : ∀ p, Stamp (G p)) (x0 : FVec Ideal S4096x4096 .f32)
    (h0 : ∀ i, x0 i = (0 : EReal)) (r p : Fin 4096) : refMask g x0 (ix2 r p) = mask G r p := by
  unfold refMask
  pointwise
  rw [h0]
  rw [show g (ix1 r) = G r from hg r, show g (ix1 p) = G p from hg p]
  unfold Scalar.select mask
  refine if_congr ?_ rfl rfl
  refine IntOp.andi_eq_one.trans ?_
  rw [IntOp.andi_eq_one, stamp_sge _ (hG r), stamp_sge _ (hG p), IntOp.cmpi_sge]
  constructor
  · rintro ⟨⟨h1, h2⟩, h3⟩
    rw [toInt_small _ h2, toInt_small _ h3] at h1
    exact ⟨h2, h3, by omega⟩
  · rintro ⟨h1, h2, h3⟩
    rw [toInt_small _ h1, toInt_small _ h2]
    exact ⟨⟨by omega, h1⟩, h2⟩

/-- The reference's result is the mask. -/
theorem result_mask (m : (ℓ : Loc nD τ sig) → Buf (Elt Ideal) ℓ) (c : Dev nD)
    (h0 : ∀ i, m ((c.tc : Thread nD τ).loc main_arg0) i = (0 : EReal))
    (h1 : ∀ (t : Fin 64) (e : Fin 48), (m ((c.tc : Thread nD τ).loc main_arg1) : IVec S64x48 32) (ix2 t e) = BitVec.ofNat 32 (t.val * 48 + e.val))
    (h2 : InRange (toks (m ((c.tc : Thread nD τ).loc main_arg2)))) (h3 : InRange (toks (m ((c.tc : Thread nD τ).loc main_arg3)))) :
    Cert.ReferenceIdeal.Value.res_main_v50 m c
      = fun i : S4096x4096.Idx => mask (stamps (toks (m ((c.tc : Thread nD τ).loc main_arg2))) (toks (m ((c.tc : Thread nD τ).loc main_arg3)))) (i 0) (i 1) := by
  rw [result_eq]
  funext (i : S4096x4096.Idx)
  have e : i = ix2 (⟨i 0, (i 0).isLt⟩ : Fin 4096) (⟨i 1, (i 1).isLt⟩ : Fin 4096) := funext fun a => by fin_cases a <;> rfl
  exact (congrArg _ e).trans (refMask_at _ _ (refTs_at _ _ _ h1 h2 h3) (stamps_stamp _ _) _ h0 _ _)

end Cert.ReferenceIdeal.Hand

end
-- ==== Proof.Same.lean ====
/-
  The kernel's text and its idealization's are the same: the body table of the one is that of the other.
-/
module

public import proofs.«01_k».proof.Proof.Gen.Kernel
public import proofs.«01_k».proof.Proof.Gen.KernelIdeal

@[expose] public section

noncomputable section

namespace Cert.Same

open Idealize.ShloMosaic

attribute [local instance] Cert.Kernel.Gen.facts Cert.KernelIdeal.Gen.facts

variable {F : FTy → Type} [FloatOps F]

/-- The kernel bodies' table. -/
theorem bodies_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- The whole body table. -/
theorem defs_eq : Cert.Kernel.defs (F := F) = Cert.KernelIdeal.defs (F := F) :=
  congrArg (Pipeline.defs Cert.KernelIdeal.pcfgs) (bodies_eq (F := F))

end Cert.Same

end
-- ==== Proof.ScWords.lean ====
module

public import proofs.«01_k».proof.Proof.Gen.SparseIdeal.Skeleton
public import proofs.«01_k».proof.Proof.Payload
public import Idealize.ShloMosaic.Lib.WordCmp
public import Idealize.ShloMosaic.Lib.Routing.Words
public import Idealize.ShloMosaic.Lib.Pointwise.ElementwiseCore
public import Idealize.ShloMosaic.Lib.Pointwise.Index

@[expose] public section

/-!
The words of the SparseCore call: the image tokens' timesteps it starts from, sixteen at a time, and what one indexed
store of sixteen lanes makes of the vector — a table row named twice over is that row's overwrites.
-/

set_option maxRecDepth 16384

noncomputable section

namespace Cert.SparseIdeal.Hand

open Cert.SparseIdeal Cert.SparseIdeal.Gen Cert.Mask
open Idealize.ShloMosaic Idealize.ShloMosaic.WordCmp

variable {F : FTy → Type} [FloatOps F]

/-- The token an entry stands for. -/
abbrev pos (y : S4096.Idx) : Fin 4096 := y 0

/-- A timestep table as the one-axis vector the call keeps it in. -/
def vec (g : Stamps) : S4096.Idx → BitVec 32 := fun y => g (pos y)

/-- The token numbers in the order the call takes them: sixteen lanes a row, each row of eight twice; the state table's
rows first, then the action table's. -/
def names (S A : Tokens) : S2048.Idx → BitVec 32 := fun y =>
  if h : (y 0).val / 16 < 64 then S ⟨(y 0).val / 16, h⟩ ⟨(y 0).val % 8, Nat.mod_lt _ (by decide)⟩
  else A ⟨(y 0).val / 16 - 64, by have h1 : (y 0).val < 2048 := (y 0).isLt; omega⟩ ⟨(y 0).val % 8, Nat.mod_lt _ (by decide)⟩

/-- The timesteps beside them: the row's number within its table. -/
def steps : S2048.Idx → BitVec 32 := fun y => BitVec.ofNat 32 ((y 0).val / 16 % 64)

/-- The vector after the first `k` indexed stores. -/
def groups (S A : Tokens) : ℕ → Stamps
  | 0 => base
  | k + 1 => if h : k < 64 then rowPut S ⟨k, h⟩ (groups S A k)
      else if h2 : k - 64 < 64 then rowPut A ⟨k - 64, h2⟩ (groups S A k) else groups S A k

theorem groups_low (S A : Tokens) (k : ℕ) (hk : k ≤ 64) : groups S A k = rows S base k := by
  induction k with
  | zero => rfl
  | succ k ih => rw [groups, rows, dif_pos (by omega), dif_pos (by omega), ih (by omega)]

theorem groups_high (S A : Tokens) (k : ℕ) (hk : k ≤ 64) : groups S A (64 + k) = rows A (rows S base 64) k := by
  induction k with
  | zero => exact groups_low S A 64 le_rfl
  | succ k ih =>
    rw [← Nat.add_assoc, groups, rows, dif_neg (by omega), dif_pos (by omega), dif_pos (by omega), ih (by omega)]
    congr 1
    exact Fin.ext (by show 64 + k - 64 = k; omega)

theorem groups_all (S A : Tokens) : groups S A 128 = stamps S A := groups_high S A 64 le_rfl

/-- The words the first loop stores at trip `k`: the image tokens' timesteps from `16 k` on. -/
theorem pay1_vec (k : Fin k0_t1_loop.trips) (y : S16.Idx) (p : Fin 4096) (hp : p.val = 16 * k.val + (y 0).val) :
    k0_pay1 k y = base p := by
  have hpl := p.isLt
  have hk : k.val < 256 := k.isLt
  unfold k0_pay1
  have key := Cert.KernelIdeal.Hand.floor_48 p.val hpl
  have h1 : Scalar.subi (Scalar.extui (Scalar.cmpi .sgt 48#32 0#32)) (Scalar.extui (Scalar.cmpi .slt 48#32 0#32)) = (1#32 : BitVec 32) := by decide
  rw [h1]
  have hi : addi (broadcast S16 (Scalar.muli (Scf.iv 0#32 1#32 k.val) 16#32)) (iota .scVector S16 32 [0] iota_S16_d0_w32_scVector) y = BitVec.ofNat 32 p.val := by
    rw [addi_apply, iota_at]
    unfold Scf.iv
    rw [BitVec.mul_one, BitVec.zero_add]
    show BitVec.ofNat 32 k.val * 16#32 + BitVec.ofNat 32 (0 * 16 + (y 0).val) = _
    have hy : (y 0).val < 16 := (y 0).isLt
    rw [hp]
    apply BitVec.eq_of_toNat_eq
    simp only [BitVec.toNat_add, BitVec.toNat_mul, BitVec.toNat_ofNat]
    omega
  simp only [select_at, cmpi_at, andi_at, broadcast_at, subi_apply, ValueIdx.extui_apply, divsi_apply, remsi_apply, hi]
  refine (congrArg (fun z => Scalar.select (IntOp.cmpi .slt (BitVec.ofNat 32 p.val) 3072#32) z 4294967295#32) key).trans ?_
  unfold base
  by_cases h : p.val < 3072
  · rw [(cmpi_slt_ofNat_eq_one_iff (w := 32) (a := p.val) (b := 3072) (by omega) (by decide)).mpr h, if_pos h]; rfl
  · rw [(cmpi_slt_ofNat_eq_zero_iff (w := 32) (a := p.val) (b := 3072) (by omega) (by decide)).mpr h, if_neg h]; rfl

/-- Two choices on equivalent conditions, however each is decided. -/
theorem ite_iff {α : Type} {p q : Prop} {i : Decidable p} {j : Decidable q} {a b c d : α} (h : p ↔ q) (h1 : a = c) (h2 : b = d) :
    @ite α p i a b = @ite α q j c d := by
  subst h1 h2
  by_cases hp : p
  · rw [if_pos hp, if_pos (h.mp hp)]
  · rw [if_neg hp, if_neg fun hq => hp (h.mpr hq)]

/-- An unmasked store of lanes that all hold one word: an entry takes the word where some lane names it. -/
theorem storeIdx_lanes {d : Fin 1 → ℕ} (f : S4096.Idx → BitVec 32) (ix : IVec ⟨1, d⟩ 32) (v : IVec ⟨1, d⟩ 32) (x : BitVec 32) (hv : ∀ l, v l = x)
    (h : ∀ a y, ((![ix] : Fin 1 → IVec ⟨1, d⟩ 32) a y).toNat < S4096.size a) (p : S4096.Idx) :
    storeIdx (F := F) (e := .i32) (s := S4096) f ![ix] v (fun _ => 1#1) false h p
      = if ∃ l : Fin (d 0), (ix (Shape.ofLane l)).toNat = (p 0).val then x else f p := by
  unfold storeIdx
  have fin : ∀ (L : List (Fin (d 0))) (G : Vec F S4096 .i32 → Fin (d 0) → Vec F S4096 .i32)
      (hG : ∀ g k (j : S4096.Idx), G g k j = if (ix (Shape.ofLane k)).toNat = (j 0).val then x else g j),
      (L.foldl G f) p = if ∃ k ∈ L, (ix (Shape.ofLane k)).toNat = (p 0).val then x else f p := by
    intro L G hG
    induction L using List.reverseRecOn with
    | nil => simp
    | append_singleton L k ih =>
      rw [List.foldl_append, List.foldl_cons, List.foldl_nil, hG, ih]
      by_cases hk : (ix (Shape.ofLane k)).toNat = (p 0).val
      · rw [if_pos hk, if_pos ⟨k, by simp, hk⟩]
      · rw [if_neg hk]
        refine ite_iff ⟨fun ⟨j, hj, hj2⟩ => ⟨j, by simp [hj], hj2⟩, fun ⟨j, hj, hj2⟩ => ⟨j, ?_, hj2⟩⟩ rfl rfl
        rcases List.mem_append.mp hj with hj | hj
        · exact hj
        · rw [List.mem_singleton] at hj; subst hj; exact absurd hj2 hk
  refine (fin _ _ ?_).trans (ite_iff ⟨fun ⟨k, _, hk⟩ => ⟨k, hk⟩, fun ⟨k, hk⟩ => ⟨k, List.mem_finRange _, hk⟩⟩ rfl rfl)
  intro g k j
  dsimp only
  rw [if_pos (show (1#1 : BitVec 1) = 1 from rfl)]
  refine ite_iff ⟨fun H => (H 0).symm, fun H a => ?_⟩ (hv _) rfl
  obtain rfl : a = 0 := Subsingleton.elim _ _
  exact H.symm

/-- One trip of the second loop on the vector: the row's overwrites, its eight tokens named twice. -/
theorem storeIdx_row (S A : Tokens) (g : Stamps) (k : ℕ) (hk : k < 128) (ix v : IVec S16 32)
    (hix : ∀ l : S16.Idx, ∀ q : S2048.Idx, (q 0).val = 16 * k + (l 0).val → ix l = names S A q)
    (hv : ∀ l : S16.Idx, ∀ q : S2048.Idx, (q 0).val = 16 * k + (l 0).val → v l = steps q)
    (h : ∀ a y, ((![ix] : Fin 1 → IVec S16 32) a y).toNat < S4096.size a) :
    storeIdx (F := F) (e := .i32) (s := S4096) (vec (groups S A k)) ![ix] v (fun _ => 1#1) false h = vec (groups S A (k + 1)) := by
  funext p
  have at_q : ∀ l : S16.Idx, ∃ q : S2048.Idx, (q 0).val = 16 * k + (l 0).val := fun l => by
    have hl : (l 0).val < 16 := (l 0).isLt
    exact ⟨fun a => ⟨16 * k + (l 0).val, by obtain rfl : a = 0 := Subsingleton.elim _ _; show _ < 2048; omega⟩, rfl⟩
  have hs : ∀ l, v l = BitVec.ofNat 32 (k % 64) := fun l => by
    obtain ⟨q, hq⟩ := at_q l
    have hl : (l 0).val < 16 := (l 0).isLt
    rw [hv l q hq]; unfold steps; rw [hq, show (16 * k + (l 0).val) / 16 = k by omega]
  refine (storeIdx_lanes (F := F) (d := ![16]) _ ix v _ hs h p).trans ?_
  show (if ∃ l : Fin 16, (ix (Shape.ofLane (d := ![16]) l)).toNat = (pos p).val then BitVec.ofNat 32 (k % 64) else groups S A k (pos p)) = groups S A (k + 1) (pos p)
  generalize pos p = p'
  by_cases h1 : k < 64
  · rw [groups, dif_pos h1, rowPut_at]
    have hn : ∀ l : S16.Idx, ix l = S ⟨k, h1⟩ ⟨(l 0).val % 8, Nat.mod_lt _ (by decide)⟩ := fun l => by
      obtain ⟨q, hq⟩ := at_q l
      have hl : (l 0).val < 16 := (l 0).isLt
      have e : (q 0).val / 16 = k := by omega
      rw [hix l q hq]; unfold names
      rw [dif_pos (by omega)]
      exact congrArg₂ S (Fin.ext e) (Fin.ext (by show (q 0).val % 8 = (l 0).val % 8; omega))
    refine ite_iff ⟨fun ⟨l, hl⟩ => ⟨_, (congrArg BitVec.toNat (hn _)).symm.trans hl⟩, fun ⟨e, he⟩ => ⟨⟨e.val, by have := e.isLt; show _ < 16; omega⟩, ?_⟩⟩
      (congrArg _ (Nat.mod_eq_of_lt h1)) rfl
    rw [hn, ← he]
    congr 2
    exact Fin.ext (Nat.mod_eq_of_lt e.isLt)
  · have h2 : k - 64 < 64 := by omega
    rw [groups, dif_neg h1, dif_pos h2, rowPut_at]
    have hn : ∀ l : S16.Idx, ix l = A ⟨k - 64, h2⟩ ⟨(l 0).val % 8, Nat.mod_lt _ (by decide)⟩ := fun l => by
      obtain ⟨q, hq⟩ := at_q l
      have hl : (l 0).val < 16 := (l 0).isLt
      have e : (q 0).val / 16 = k := by omega
      rw [hix l q hq]; unfold names
      rw [dif_neg (by omega)]
      exact congrArg₂ A (Fin.ext (by show (q 0).val / 16 - 64 = k - 64; omega)) (Fin.ext (by show (q 0).val % 8 = (l 0).val % 8; omega))
    refine ite_iff ⟨fun ⟨l, hl⟩ => ⟨_, (congrArg BitVec.toNat (hn _)).symm.trans hl⟩, fun ⟨e, he⟩ => ⟨⟨e.val, by have := e.isLt; show _ < 16; omega⟩, ?_⟩⟩
      (congrArg _ (by show k % 64 = k - 64; omega)) rfl
    rw [hn, ← he]
    congr 2
    exact Fin.ext (Nat.mod_eq_of_lt e.isLt)

end Cert.SparseIdeal.Hand
end
-- ==== Proof.ScTile.lean ====
/-
  The SparseCore call's task on the one subcore that works: two fetches, the loop that fills the vector with the image
  tokens' timesteps, the loop of indexed stores, and the write-out.
-/
module

public import proofs.«01_k».proof.Proof.ScWords
public import proofs.«01_k».proof.Proof.Gen.SparseIdeal.Launch
public import proofs.«01_k».proof.Proof.Gen.SparseIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.VecWindow

@[expose] public section

set_option maxRecDepth 16384

noncomputable section

namespace Cert.SparseIdeal.Hand

open Cert.SparseIdeal Cert.SparseIdeal.Gen Cert.Mask
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as its launch sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds and the transfers' counters, side by side. -/
abbrev UH : Type := URounds (GSem nD τ sig) ℕ
abbrev UP : Type := UR sig nD τ
abbrev UU : Type := UH × UP × Counters

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by unfold EP embR; infer_instance

/-! ## The task's memrefs -/

/-- The token list in the host's memory. -/
abbrev a2 : Memref Cert.SparseIdeal.sig Kind.scVector Space.hbm Cert.SparseIdeal.S2048 EltTy.i32 := Memref.whole Cert.SparseIdeal.main_v6_scv
/-- The timestep list in the host's memory. -/
abbrev a3 : Memref Cert.SparseIdeal.sig Kind.scVector Space.hbm Cert.SparseIdeal.S2048 EltTy.i32 := Memref.whole Cert.SparseIdeal.main_v11_scv
/-- The timestep vector in the host's memory. -/
abbrev a4 : Memref Cert.SparseIdeal.sig Kind.scVector Space.hbm Cert.SparseIdeal.S4096 EltTy.i32 := Memref.whole Cert.SparseIdeal.main_v12_scv
/-- The tile's vector of timesteps. -/
abbrev a5 : Memref Cert.SparseIdeal.sig Kind.scVector Space.vmem Cert.SparseIdeal.S4096 EltTy.i32 := Memref.whole Cert.SparseIdeal.cc0_scratch0
/-- The tile's copy of the token list. -/
abbrev a6 : Memref Cert.SparseIdeal.sig Kind.scVector Space.vmem Cert.SparseIdeal.S2048 EltTy.i32 := Memref.whole Cert.SparseIdeal.cc0_scratch1
/-- The tile's copy of the timestep list. -/
abbrev a7 : Memref Cert.SparseIdeal.sig Kind.scVector Space.vmem Cert.SparseIdeal.S2048 EltTy.i32 := Memref.whole Cert.SparseIdeal.cc0_scratch2

section Tile

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

variable (k0_h1 : k0_cond1 L = 1#1)

/-- What the first loop keeps: the entries below `16 k` hold the image tokens' timesteps. -/
def inv1 (k : ℕ) (_ : Unit) : sProp 𝕄 :=
  iprop(∃ f, ⌜∀ y : S4096.Idx, (pos y).val < 16 * k → (a5).view.read (Elt F) f y = base (pos y)⌝
    ∗ ((a5).view.loc (thr d L) ↦[(a5).view.set]{fullShare} f))

theorem step1 (k : Fin k0_t1_loop.trips) (u : Unit) :
    (inv1 d L k.val u : sProp 𝕄) ⊢ wp Idealize.ShloMosaic.frame (wpE (defs₀ (F := F)) 𝒱₀ (thr d L) none) Set.univ
      (k0_t1_body L a2 (Memref.isWhole_whole _) a3 (Memref.isWhole_whole _) a4 (Memref.isWhole_whole _) a5 (Memref.isWhole_whole _)
        a6 (Memref.isWhole_whole _) a7 (Memref.isWhole_whole _) cc0_scoped0 cc0_scoped1 cc0_scoped2 k0_h1 k u)
      (inv1 d L (k.val + 1)) := by
  unfold inv1 k0_t1_body
  iintro ⟨%f, %hf, H5⟩
  sl_exec
  sl_step
  iexists _
  isplitr
  swap; · iexact H5
  ipureintro
  intro y hy
  rw [View.read_writes_cons_unit _ _ _ _ _ _ (k0_off1_eq k)]
  by_cases h : (pos y).val < 16 * k.val
  · rw [dif_neg]
    · exact hf y h
    · intro H
      have h1 : 16 * k.val ≤ (pos y).val := (H 0).1
      omega
  · rw [dif_pos]
    · exact pay1_vec k _ _ (by show (pos y).val = 16 * k.val + ((pos y).val - 16 * k.val); omega)
    · intro a
      obtain rfl : a = (0 : Fin 1) := Subsingleton.elim (α := Fin 1) _ _
      show 16 * k.val ≤ (pos y).val ∧ (pos y).val < 16 * k.val + 16
      omega

/-- What the second loop keeps: the names and the timesteps fetched, and the vector after the first `k` stores. -/
def inv2 (S A : Tokens) (k : ℕ) (_ : Unit) : sProp 𝕄 :=
  iprop((∃ f, ⌜(a6).view.read (Elt F) f = names S A⌝ ∗ ((a6).view.loc (thr d L) ↦[(a6).view.set]{fullShare} f))
    ∗ (∃ f, ⌜(a7).view.read (Elt F) f = steps⌝ ∗ ((a7).view.loc (thr d L) ↦[(a7).view.set]{fullShare} f))
    ∗ (∃ f, ⌜(a5).view.read (Elt F) f = vec (groups S A k)⌝ ∗ ((a5).view.loc (thr d L) ↦[(a5).view.set]{fullShare} f)))

theorem names_lt (S A : Tokens) (hS : InRange S) (hA : InRange A) (q : S2048.Idx) : (names S A q).toNat < 4096 := by
  unfold names; split
  · exact hS _ _
  · exact hA _ _

theorem lane_at (k : Fin k0_t2_loop.trips) (l : S16.Idx) (inb : ∀ a, k0_off2 k a + S16.size a ≤ S2048.size a) :
    (((Rect.unit (s := S2048) (k0_off2 k) S16.size inb).toLoadRect.idx l) 0).val = 16 * k.val + (l 0).val := by
  show k0_off2 k 0 + 1 * (l 0).val = _
  rw [k0_off2_eq, Nat.one_mul]; rfl

theorem pts_a5 (f : S4096.Idx → BitVec 32) :
    ((((a5).access (.whole S4096)).loc (thr d L)) ↦[((a5).access (.whole S4096)).set]{fullShare} f : sProp 𝕄)
      = ((a5).view.loc (thr d L) ↦[(a5).view.set]{fullShare} f) := by
  rw [show ((a5).access (.whole S4096)).set = Finset.univ from Memref.set_access_whole (cc0_scratch0 : Ref sig .scVector),
    show (a5).view.set = Finset.univ by simp only [Memref.view_whole, View.set_whole]]

theorem step2 (S A : Tokens) (hS : InRange S) (hA : InRange A) (k : Fin k0_t2_loop.trips) (u : Unit) :
    (inv2 d L S A k.val u : sProp 𝕄) ⊢ wp Idealize.ShloMosaic.frame (wpE (defs₀ (F := F)) 𝒱₀ (thr d L) none) Set.univ
      (k0_t2_body L a2 (Memref.isWhole_whole _) a3 (Memref.isWhole_whole _) a4 (Memref.isWhole_whole _) a5 (Memref.isWhole_whole _)
        a6 (Memref.isWhole_whole _) a7 (Memref.isWhole_whole _) cc0_scoped0 cc0_scoped1 cc0_scoped2 k0_h1 k u)
      (inv2 d L S A (k.val + 1)) := by
  unfold inv2 k0_t2_body
  iintro ⟨⟨%f6, %h6, H6⟩, ⟨%f7, %h7, H7⟩, ⟨%f5, %h5, H5⟩⟩
  have hchk : k0_chk1 L ((a6).view.readAt (Elt F) (Rect.unit (s := S2048) (k0_off2 k) S16.size (k0_off2_inb L k k0_h1)).toLoadRect f6) := by
    intro _ a x
    obtain rfl : a = (0 : Fin 1) := Subsingleton.elim (α := Fin 1) _ _
    refine lt_of_eq_of_lt (congrArg BitVec.toNat ((View.readAt_apply ..).trans (congrFun h6 _))) ?_
    exact names_lt S A hS hA _
  sl_exec
  ihave H5 := (Entails.of_eq (pts_a5 (F := F) d L _).symm) $$ H5
  iapply (SparseCore.wp_vectorStoreIdx 𝒱₀ (thr d L) none Set.univ (base := a5)) $$ H5
  iintro H5
  ihave H5 := (Entails.of_eq (pts_a5 (F := F) d L _)) $$ H5
  sl_exec
  sl_step
  isplitl [H6]; · iexists f6; isplitr; (· ipureintro; exact h6); iexact H6
  isplitl [H7]; · iexists f7; isplitr; (· ipureintro; exact h7); iexact H7
  iexists _
  isplitr
  swap; · iexact H5
  ipureintro
  refine (Memref.write_access_whole_univ (Elt F) cc0_scratch0 _ _).trans ?_
  rw [show ((a5).access (Rect.whole S4096)).read (Elt F) f5 = f5 from Memref.read_access_whole (Elt F) cc0_scratch0 f5]
  rw [show f5 = vec (groups S A k.val) from h5]
  refine storeIdx_row S A (groups S A k.val) k.val k.isLt _ _ ?_ ?_ _
  · intro l q hq
    refine (View.readAt_apply ..).trans ((congrFun h6 _).trans (congrArg (names S A) ?_))
    funext a
    obtain rfl : a = (0 : Fin 1) := Subsingleton.elim (α := Fin 1) _ _
    exact Fin.ext ((lane_at k l _).trans hq.symm)
  · intro l q hq
    refine (View.readAt_apply ..).trans ((congrFun h7 _).trans (congrArg steps ?_))
    funext a
    obtain rfl : a = (0 : Fin 1) := Subsingleton.elim (α := Fin 1) _ _
    exact Fin.ext ((lane_at k l _).trans hq.symm)

/-! ## The whole task -/

abbrev nLoc : Loc nD τ sig := (SparseCore.T d).loc main_v6
abbrev tLoc : Loc nD τ sig := (SparseCore.T d).loc main_v11
abbrev oLoc : Loc nD τ sig := (SparseCore.T d).loc main_v12

abbrev namesAt (S A : Tokens) : Buf (Elt F) (nLoc d) := names S A
abbrev stepsAt : Buf (Elt F) (tLoc d) := steps
abbrev stampsAt (S A : Tokens) : Buf (Elt F) (oLoc d) := vec (stamps S A)

/-- What the working task is handed: the names, the timesteps beside them, and the vector to fill. -/
def handed (S A : Tokens) : sProp 𝕄 :=
  iprop((nLoc d ↦{fullShare} namesAt d S A) ∗ (tLoc d ↦{fullShare} stepsAt d) ∗ ∃ f, oLoc d ↦{fullShare} f)

/-- What it brings back: the first two as they were, the vector holding every token's timestep. -/
def brought (S A : Tokens) : sProp 𝕄 :=
  iprop((nLoc d ↦{fullShare} namesAt d S A) ∗ (tLoc d ↦{fullShare} stepsAt d) ∗ oLoc d ↦{fullShare} stampsAt d S A)

theorem pts_a2 (f : Buf (Elt F) (nLoc d)) :
    ((a2).view.loc (thr d L) ↦[(a2).view.set]{fullShare} f : sProp 𝕄) = nLoc d ↦{fullShare} f := by
  simp only [Memref.view_whole, View.set_whole]
theorem pts_a3 (f : Buf (Elt F) (tLoc d)) :
    ((a3).view.loc (thr d L) ↦[(a3).view.set]{fullShare} f : sProp 𝕄) = tLoc d ↦{fullShare} f := by
  simp only [Memref.view_whole, View.set_whole]
theorem pts_a4 (f : Buf (Elt F) (oLoc d)) :
    ((a4).view.loc (thr d L) ↦[(a4).view.set]{fullShare} f : sProp 𝕄) = oLoc d ↦{fullShare} f := by
  simp only [Memref.view_whole, View.set_whole]
theorem pts_s5 (f : Buf (Elt F) ((thr d L).loc cc0_scratch0)) :
    ((a5).view.loc (thr d L) ↦[(a5).view.set]{fullShare} f : sProp 𝕄) = (thr d L).loc cc0_scratch0 ↦{fullShare} f := by
  simp only [Memref.view_whole, View.set_whole]
theorem pts_s6 (f : Buf (Elt F) ((thr d L).loc cc0_scratch1)) :
    ((a6).view.loc (thr d L) ↦[(a6).view.set]{fullShare} f : sProp 𝕄) = (thr d L).loc cc0_scratch1 ↦{fullShare} f := by
  simp only [Memref.view_whole, View.set_whole]
theorem pts_s7 (f : Buf (Elt F) ((thr d L).loc cc0_scratch2)) :
    ((a7).view.loc (thr d L) ↦[(a7).view.set]{fullShare} f : sProp 𝕄) = (thr d L).loc cc0_scratch2 ↦{fullShare} f := by
  simp only [Memref.view_whole, View.set_whole]

abbrev cell0 : GSem nD τ sig := (thr d L, .dma cc0_scoped0.sem)
abbrev cell1 : GSem nD τ sig := (thr d L, .dma cc0_scoped1.sem)
abbrev cell2 : GSem nD τ sig := (thr d L, .dma cc0_scoped2.sem)

/-- The task's own counters are its three transfers' and the rest. -/
theorem ownSems0_split :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  have e10 : cell1 d L ≠ cell0 d L := fun h => absurd (Prod.mk.inj h).2 (by decide)
  have e20 : cell2 d L ≠ cell0 d L := fun h => absurd (Prod.mk.inj h).2 (by decide)
  have e21 : cell2 d L ≠ cell1 d L := fun h => absurd (Prod.mk.inj h).2 (by decide)
  have o0 : cell0 d L ∈ ownCells (thr d L) := mem_ownCells.mpr ⟨rfl, show (SemLoc.dma cc0_scoped0.sem : SemLoc sig).isScoped .scVector = true by decide⟩
  have o1 : cell1 d L ∈ ownCells (thr d L) := mem_ownCells.mpr ⟨rfl, show (SemLoc.dma cc0_scoped1.sem : SemLoc sig).isScoped .scVector = true by decide⟩
  have o2 : cell2 d L ∈ ownCells (thr d L) := mem_ownCells.mpr ⟨rfl, show (SemLoc.dma cc0_scoped2.sem : SemLoc sig).isScoped .scVector = true by decide⟩
  unfold SparseCore.Cfg.ownSems0
  rw [SparseCore.bigSep_erase' o0, SparseCore.bigSep_erase' (Finset.mem_erase.mpr ⟨e10, o1⟩),
    SparseCore.bigSep_erase' (Finset.mem_erase.mpr ⟨e21, Finset.mem_erase.mpr ⟨e20, o2⟩⟩)]

/-- The task's own buffers are the three it works in and the rest. -/
theorem ownBufs_split :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have n10 : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  have n20 : (Proc.scVector (cV L) (jV L)).devRef cc0_scratch2 ≠ (Proc.scVector (cV L) (jV L)).devRef cc0_scratch0 :=
    fun e => absurd (Proc.devRef_injective _ e) (show (cc0_scratch2 : Ref sig .scVector) ≠ cc0_scratch0 by decide)
  have n21 : (Proc.scVector (cV L) (jV L)).devRef cc0_scratch2 ≠ (Proc.scVector (cV L) (jV L)).devRef cc0_scratch1 :=
    fun e => absurd (Proc.devRef_injective _ e) (show (cc0_scratch2 : Ref sig .scVector) ≠ cc0_scratch1 by decide)
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨n10, SparseCore.Cfg.mem_ownRefs_of_owner (p := Proc.scVector (cV L) (jV L))
      (b := (Proc.scVector (cV L) (jV L)).devRef cc0_scratch1) rfl⟩),
    SparseCore.bigSep_erase' (Finset.mem_erase.mpr ⟨n21, Finset.mem_erase.mpr ⟨n20, SparseCore.Cfg.mem_ownRefs_of_owner (p := Proc.scVector (cV L) (jV L))
      (b := (Proc.scVector (cV L) (jV L)).devRef cc0_scratch2) rfl⟩⟩)]

/-- Contents that end in a write of the whole buffer read as what was written. -/
theorem whole_last {κ : Kind} (b : Ref sig κ) (f w : b.ty.Contents (Elt F)) :
    (Memref.whole b).view.read (Elt F) ((Memref.whole b).view.writes (Elt F) f [⟨Rect.whole b.ty.shape, w⟩]) = w := by
  rw [View.writes_cons]
  exact Memref.write_access_whole_univ (Elt F) b _ w

theorem whole_wrote {κ : Kind} (b : Ref sig κ) (f w : b.ty.Contents (Elt F)) :
    (Memref.whole b).view.writes (Elt F) f [⟨Rect.whole b.ty.shape, w⟩] = w := by
  rw [View.writes_cons]
  exact Memref.write_access_whole_univ (Elt F) b _ w

theorem filled (S A : Tokens) (fo : Buf (Elt F) (oLoc d)) (w : S4096.Idx → BitVec 32) (hw : w = vec (stamps S A)) :
    (a4).view.writes (Elt F) fo [⟨Rect.whole S4096, w⟩] = stampsAt (F := F) d S A := by
  subst hw
  exact whole_wrote (F := F) main_v12_scv fo _

abbrev task : Prog (TpuEff nD τ sig (Elt F) Λ₀ (.scVector (cV L) (jV L))) PUnit :=
  cc0_sc_ts L a2 (Memref.isWhole_whole _) a3 (Memref.isWhole_whole _) a4 (Memref.isWhole_whole _) a5 (Memref.isWhole_whole _)
    a6 (Memref.isWhole_whole _) a7 (Memref.isWhole_whole _) cc0_scoped0 cc0_scoped1 cc0_scoped2

theorem task_works (h1 : k0_cond1 L = 1#1) (S A : Tokens) (hS : InRange S) (hA : InRange A) (hF : (K (F := F)).Facts)
    (O : CellTallies nD τ sig (HIx 1)) (W : Waits sig (HIx 1)) (hO : ∀ g, O g none = 0) :
    iprop(levAts (K (F := F)).L (K (F := F)).lev ∗ emp ∗ handed d S A ∗ scopedBufs (thr d L) ∗ scopedSems0 (thr d L) ∗ owes (thr d L) O W)
      ⊢ wp Idealize.ShloMosaic.frame (wpE (defs₀ (F := F)) 𝒱₀ (thr d L) none) Set.univ (task L)
          fun _ => iprop(brought d S A ∗ scopedBufs (thr d L) ∗ scopedSems0 (thr d L)
            ∗ ∃ W', ⌜∀ p ∈ W', p ∈ W ∨ p.2 = none⌝ ∗ owes (thr d L) O W') := by
  unfold task
  simp only [cc0_sc_ts_eq_skeleton]; unfold cc0_sc_ts_skel handed brought
  rw [(K (F := F)).scopedBufs_V hF d (cV L) (jV L), SparseCore.Cfg.scopedSems0_V (Val := Elt F) d (cV L) (jV L), ownSems0_split, ownBufs_split]
  iintro ⟨#Hlv, -, ⟨Hn, Ht, %fo, Ho⟩, ⟨⟨%f5, H5⟩, ⟨%f6, H6⟩, ⟨%f7, H7⟩, Hbufs⟩, ⟨Hs0, Hs1, Hs2, Hsems⟩, HO⟩
  ihave Hmw := ((K (F := F)).mayWaits_none (thr := thr d L) hO) $$ Hlv
  ihave Hn := (Entails.of_eq (pts_a2 (F := F) d L _).symm) $$ Hn
  ihave Ht := (Entails.of_eq (pts_a3 (F := F) d L _).symm) $$ Ht
  ihave Ho := (Entails.of_eq (pts_a4 (F := F) d L _).symm) $$ Ho
  ihave H5 := (Entails.of_eq (pts_s5 (F := F) d L _).symm) $$ H5
  ihave H6 := (Entails.of_eq (pts_s6 (F := F) d L _).symm) $$ H6
  ihave H7 := (Entails.of_eq (pts_s7 (F := F) d L _).symm) $$ H7
  sl_exec
  sl_for (inv1 d L) $$ [H5]
  case region => exact fun k u => step1 d L h1 k u
  · unfold inv1
    iexists f5
    isplitr
    swap; · iexact H5
    ipureintro; intro y hy; omega
  iintro %_ HI
  unfold inv1
  icases HI with ⟨%g5, %hg5, H5⟩
  sl_exec
  sl_for (inv2 d L S A) $$ [H5 H6 H7]
  case region => exact fun k u => step2 d L h1 S A hS hA k u
  · unfold inv2
    isplitl [H6]
    · iexists _; isplitr
      swap; · iexact H6
      ipureintro
      unfold task_works.sl.dma0
      refine (whole_last _ _ _).trans ?_
      rfl
    isplitl [H7]
    · iexists _; isplitr
      swap; · iexact H7
      ipureintro
      unfold task_works.sl.dma0_1
      refine (whole_last _ _ _).trans ?_
      rfl
    iexists g5; isplitr
    swap; · iexact H5
    ipureintro
    funext y
    exact hg5 y (pos y).isLt
  iintro %_ HI
  unfold inv2
  icases HI with ⟨⟨%g6, %hg6, H6⟩, ⟨%g7, %hg7, H7⟩, %e5, %he5, H5⟩
  rw [show Scf.trips k0_t2_loop.lb k0_t2_loop.ub k0_t2_loop.st = 128 by decide, groups_all] at he5
  sl_exec
  sl_step
  isplitl [Hn Ht Ho]
  · isplitl [Hn]; · iapply (Entails.of_eq (pts_a2 (F := F) d L _)); iexact Hn
    isplitl [Ht]; · iapply (Entails.of_eq (pts_a3 (F := F) d L _)); iexact Ht
    ihave Ho := (Entails.of_eq (pts_a4 (F := F) d L _)) $$ Ho
    rw [filled (F := F) d S A fo (task_works.sl.dma0_2 e5) (by unfold task_works.sl.dma0_2; exact he5)]
    iexact Ho
  isplitl [H5 H6 H7 Hbufs]
  · isplitl [H5]; · iexists _; iapply (Entails.of_eq (pts_s5 (F := F) d L _)); iexact H5
    isplitl [H6]; · iexists _; iapply (Entails.of_eq (pts_s6 (F := F) d L _)); iexact H6
    isplitl [H7]; · iexists _; iapply (Entails.of_eq (pts_s7 (F := F) d L _)); iexact H7
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  · exact .inl hp

/-- Every other subcore's task does nothing. -/
theorem task_idles (h1 : ¬ k0_cond1 L = 1#1) (O : CellTallies nD τ sig (HIx 1)) (W : Waits sig (HIx 1)) :
    (iprop(levAts (K (F := F)).L (K (F := F)).lev ∗ emp ∗ emp ∗ scopedBufs (thr d L) ∗ scopedSems0 (thr d L) ∗ owes (thr d L) O W) : sProp 𝕄)
      ⊢ wp Idealize.ShloMosaic.frame (wpE (defs₀ (F := F)) 𝒱₀ (thr d L) none) Set.univ (task L)
          fun _ => iprop(emp ∗ scopedBufs (thr d L) ∗ scopedSems0 (thr d L)
            ∗ ∃ W', ⌜∀ p ∈ W', p ∈ W ∨ p.2 = none⌝ ∗ owes (thr d L) O W') := by
  unfold task
  simp only [cc0_sc_ts_eq_skeleton]; unfold cc0_sc_ts_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

end Tile

end Cert.SparseIdeal.Hand
end
-- ==== Proof.ScCall.lean ====
/-
  The SparseCore call as its caller sees it: SparseCore 0 is handed the names, the timesteps beside them and the vector,
  its first subcore does the work, and everything else is handed nothing.
-/
module

public import proofs.«01_k».proof.Proof.ScTile
public import proofs.«01_k».proof.Proof.Gen.SparseIdeal.Launch
public import proofs.«01_k».proof.Proof.Gen.SparseIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.VecWindow

@[expose] public section

set_option maxRecDepth 16384

noncomputable section

namespace Cert.SparseIdeal.Hand

open Cert.SparseIdeal Cert.SparseIdeal.Gen Cert.Mask
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (S A : Dev nD → Tokens)

/-- What a SparseCore, or one of its subcores, is handed. -/
def giveIf (p : Prop) [Decidable p] (d : Dev nD) : sProp 𝕄 := if p then handed d (S d) (A d) else iprop(emp)
/-- What it brings back. -/
def backIf (p : Prop) [Decidable p] (d : Dev nD) : sProp 𝕄 := if p then brought d (S d) (A d) else iprop(emp)

instance handed_storable (S A : Tokens) (d : Dev nD) : BI.Storable (upEmb : UEmb _ 𝕄) (handed (F := F) d S A) := by
  unfold handed; infer_instance
instance brought_storable (S A : Tokens) (d : Dev nD) : BI.Storable (upEmb : UEmb _ 𝕄) (brought (F := F) d S A) := by
  unfold brought; infer_instance
instance giveIf_storable (p : Prop) [Decidable p] (d : Dev nD) : BI.Storable (upEmb : UEmb _ 𝕄) (giveIf (F := F) S A p d) := by
  unfold giveIf; split <;> infer_instance
instance backIf_storable (p : Prop) [Decidable p] (d : Dev nD) : BI.Storable (upEmb : UEmb _ 𝕄) (backIf (F := F) S A p d) := by
  unfold backIf; split <;> infer_instance

def P : (K (F := F)).Pay (nD := nD) (Val := Elt F) (Name := ℕ) (U := UU) where
  st := fun _ d c => giveIf S A (c.val = 0) d
  dn := fun _ d c => backIf S A (c.val = 0) d
  go := fun _ d c i => giveIf S A (c.val = 0 ∧ i.val = 0) d
  td := fun _ d c i => backIf S A (c.val = 0 ∧ i.val = 0) d
  x := fun _ _ => iprop(emp)

instance P_storable : (P (F := F) S A).IsStorable where
  st _ d c := by unfold P; infer_instance
  dn _ d c := by unfold P; infer_instance
  go _ d c i := by unfold P; infer_instance
  td _ d c i := by unfold P; infer_instance

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem works_iff : ∀ (c : Fin (grid0.bound 0)) (s : Fin (grid0.bound 1)), k0_cond1 (coordsV c s) = 1#1 ↔ c.val = 0 ∧ s.val = 0 := by
  decide

theorem task_any (hS : ∀ d, InRange (S d)) (hA : ∀ d, InRange (A d)) (hF : (K (F := F)).Facts) (d : Dev nD)
    (c : Fin (grid0.bound 0)) (s : Fin (grid0.bound 1)) (O : CellTallies nD τ sig (HIx 1)) (W : Waits sig (HIx 1)) (hO : ∀ g, O g none = 0) :
    (iprop(levAts (K (F := F)).L (K (F := F)).lev ∗ emp ∗ giveIf S A (c.val = 0 ∧ s.val = 0) d
        ∗ scopedBufs (thr d (coordsV c s)) ∗ scopedSems0 (thr d (coordsV c s)) ∗ owes (thr d (coordsV c s)) O W) : sProp 𝕄)
      ⊢ wp Idealize.ShloMosaic.frame (wpE (defs₀ (F := F)) 𝒱₀ (thr d (coordsV c s)) none) Set.univ (task (coordsV c s))
          fun _ => iprop(backIf S A (c.val = 0 ∧ s.val = 0) d ∗ scopedBufs (thr d (coordsV c s)) ∗ scopedSems0 (thr d (coordsV c s))
            ∗ ∃ W', ⌜∀ p ∈ W', p ∈ W ∨ p.2 = none⌝ ∗ owes (thr d (coordsV c s)) O W') := by
  unfold giveIf backIf
  by_cases h : c.val = 0 ∧ s.val = 0
  · simp only [if_pos h]
    exact task_works d _ ((works_iff c s).mpr h) (S d) (A d) (hS d) (hA d) hF O W hO
  · simp only [if_neg h]
    exact task_idles d _ (fun e => h ((works_iff c s).mp e)) O W

theorem defs₀_vector (c : Fin τ.nSC) (s : Fin τ.nSub) :
    defs₀ (F := F) (.scVector c s) 0 () = SparseCore.onTile hcore0 hsub0 (fun c s => task (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hS : ∀ d, InRange (S d)) (hA : ∀ d, InRange (A d)) (hF : (K (F := F)).Facts) :
    (K (F := F)).TileObl (D (F := F)) 𝒱 (P S A) v₀ 0 := by
  intro d c i O W hO _ _
  simp only [show (P (F := F) S A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_any S A hS hA hF d ⟨_, hc.1⟩ ⟨_, hc.2⟩ O W hO).trans (wp_mono Idealize.ShloMosaic.frame _ _ fun _ => obl_post)

/-! ## How a SparseCore's share is dealt to its subcores -/

theorem emps {I : Type} (s : Finset I) : (bigSep s fun _ => iprop(emp)) = (iprop(emp) : sProp 𝕄) := bigSep_emp_const s

theorem deal (f : ∀ p : Prop, [Decidable p] → Dev nD → sProp 𝕄) (hf : ∀ d (p : Prop) [Decidable p], ¬ p → f p d = iprop(emp)) (d : Dev nD)
    (h1 : ∀ (p q : Prop) [Decidable p] [Decidable q], (p ↔ q) → f p d = f q d) (c : ℕ) :
    (bigSep Finset.univ fun i : Fin 16 => f (c = 0 ∧ i.val = 0) d) = f (c = 0) d := by
  rw [SparseCore.bigSep_erase' (Finset.mem_univ (0 : Fin 16)),
    bigSep_congr (s := Finset.univ.erase (0 : Fin 16)) (Ψ := fun _ => iprop(emp)) fun i hi =>
      hf d _ (fun h => (Finset.mem_erase.mp hi).1 (Fin.ext h.2)), emps]
  rw [h1 (c = 0 ∧ (0 : Fin 16).val = 0) (c = 0) ⟨fun h => h.1, fun h => ⟨h, rfl⟩⟩]
  exact equiv_iff.mp BI.sep_emp

theorem vecSplit : (K (F := F)).VecSplit' (P S A) 0 := by
  intro d c
  show giveIf S A (c.val = 0) d ⊢ |={Set.univ}=> iprop(
      (bigSep (Finset.univ : Finset (Fin 16)) fun i => giveIf S A (c.val = 0 ∧ i.val = 0) d)
      ∗ ((bigSep (Finset.univ : Finset (Fin 16)) fun i => backIf S A (c.val = 0 ∧ i.val = 0) d) -∗ backIf S A (c.val = 0) d))
  rw [deal (fun p _ d => giveIf (F := F) S A p d) (fun d p _ h => if_neg h) d (fun p q _ _ h => by unfold giveIf; simp only [h]) c.val,
    deal (fun p _ d => backIf (F := F) S A p d) (fun d p _ h => if_neg h) d (fun p q _ _ h => by unfold backIf; simp only [h]) c.val]
  iintro H; imodintro
  isplitl [H]; · iexact H
  iintro H; iexact H

/-- What the call takes over the two SparseCores, and what it gives back. -/
theorem st_eq (d : Dev nD) : (bigSep Finset.univ fun c : Fin ((K (F := F)).nCore 0) => (P (F := F) S A).st 0 d c) = handed d (S d) (A d) := by
  show (bigSep (Finset.univ : Finset (Fin 2)) fun c => giveIf S A (c.val = 0) d) = _
  rw [show (Finset.univ : Finset (Fin 2)) = {0, 1} by decide, SparseCore.bigSep_insert' (by decide), bigSep_singleton]
  exact (congrArg₂ (fun x y : sProp 𝕄 => iprop(x ∗ y)) (if_pos rfl) (if_neg Nat.one_ne_zero)).trans (equiv_iff.mp BI.sep_emp)
theorem dn_eq (d : Dev nD) : (bigSep Finset.univ fun c : Fin ((K (F := F)).nCore 0) => (P (F := F) S A).dn 0 d c) = brought d (S d) (A d) := by
  show (bigSep (Finset.univ : Finset (Fin 2)) fun c => backIf S A (c.val = 0) d) = _
  rw [show (Finset.univ : Finset (Fin 2)) = {0, 1} by decide, SparseCore.bigSep_insert' (by decide), bigSep_singleton]
  exact (congrArg₂ (fun x y : sProp 𝕄 => iprop(x ∗ y)) (if_pos rfl) (if_neg Nat.one_ne_zero)).trans (equiv_iff.mp BI.sep_emp)

end Cert.SparseIdeal.Hand
end
-- ==== Proof.ScMask.lean ====
/-
  The TensorCore's part of the second program: its body at any grid point, and the pipelined call as one step of the
  program, entered with the timestep vector in its array and left with the mask's blocks written back.
-/
module

public import proofs.«01_k».proof.Proof.ScCall
public import Idealize.ShloMosaic.Lib.Pipeline.RegionsLoop
public import Idealize.ShloMosaic.Lib.Pipeline.Frame
public import Idealize.ShloMosaic.Lib.Memref

@[expose] public section

set_option maxRecDepth 16384

noncomputable section

namespace Cert.SparseIdeal.Hand

open Cert.SparseIdeal Cert.SparseIdeal.Gen Cert.Mask
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- The token a lane of the timestep row stands for. -/
abbrev lane (y : S1x4096.Idx) : Fin 4096 := y 1

/-- A timestep table as the one-row array the TensorCore reads. -/
def line (g : Stamps) : S1x4096.Idx → BitVec 32 := fun y => g (lane y)

/-- The guard of the body's first part: the grid's first point. -/
abbrev first (i : grid1.Coords) : Prop :=
  Scalar.cmpi .ne (Scalar.extui (Scalar.cmpi .eq (BitVec.ofNat 32 (i 0).val) 0#32) : BitVec 32) 0#32 = 1#1

/-- A point's rows of the timestep row. -/
abbrev own (g : Stamps) (i : grid1.Coords) : S1x256.Idx → BitVec 32 :=
  fun y => line g ((Rect.unit (s := S1x4096) (k1_off1 i) S1x256.size (k1_off1_inb i)).toLoadRect.idx y)

section Body

variable (c : Dev nD) (i : grid1.Coords) (arg1 : Memref sig .tc .vmem S1x4096 .i32) (harg1 : arg1.IsWhole)
  (arg2 : Memref sig .tc .vmem S256x4096 .f32) (harg2 : arg2.IsWhole) (arg3 : Memref sig .tc .vmem S64x4096 .bf16) (harg3 : arg3.IsWhole)

/-- The comparison matrix between points: made from the table, or anything before the first point has run. -/
def kept1 (g : Stamps) (fresh : Prop) : sProp 𝕄 :=
  iprop(∃ x3, ⌜fresh ∨ x3 = k1_pay1 (F := F) (line g)⌝ ∗ owns (c : Thread nD τ) arg3 fullShare x3)

theorem mask_run (g : Stamps) (Q : PUnit → sProp 𝕄) :
    iprop(owns (c : Thread nD τ) arg1 fullShare (line g) ∗ (∃ x2, owns (c : Thread nD τ) arg2 fullShare x2)
      ∗ kept1 c arg3 g (first i)
      ∗ (owns (c : Thread nD τ) arg1 fullShare (line g)
          ∗ owns (c : Thread nD τ) arg2 fullShare (k1_pay2 (F := F) (own g i) (k1_pay1 (line g)))
          ∗ kept1 c arg3 g False -∗ Q ⟨⟩) : sProp 𝕄)
    ⊢ wp Idealize.ShloMosaic.frame (wpE (defs₀ (F := F)) Variants.none (c : Thread nD τ) none) Set.univ
        (cc1__tc_body_sc i arg1 harg1 arg2 harg2 arg3 harg3) Q := by
  simp only [cc1__tc_body_sc_eq_skeleton]; unfold cc1__tc_body_sc_skel
  dsimp only
  by_cases h : Scalar.cmpi .ne (Scalar.extui (Scalar.cmpi .eq (BitVec.ofNat 32 (i 0).val) 0#32) : BitVec 32) 0#32 = 1#1
  · rw [dif_pos h]
    unfold kept1 owns
    iintro ⟨⟨%f1, %h1, H1⟩, ⟨%x2, %f2, %h2, H2⟩, ⟨%x3, -, %f3, %h3, H3⟩, Hk⟩
    sl_exec
    sl_step
    iapply Hk
    isplitl [H1]; · iexists f1; isplitr [H1]; (· ipureintro; exact h1); iexact H1
    isplitl [H2]
    · iexists _
      isplitr [H2]
      rotate_left
      · iexact H2
      · ipureintro
        exact (View.read_writes_full _ _ _ _ _).trans (congrArg₂ k1_pay2
          (funext fun y => (View.readAt_apply ..).trans (congrFun h1 _)) (by
            unfold mask_run.sl.v15 mask_run.sl.H3_1
            exact (View.readCov_full _ _ _ _ _).trans (congrArg k1_pay1 ((View.readAt_full ..).trans h1))))
    iexists _
    isplitr [H3]
    · ipureintro; exact .inr rfl
    · iexists _
      isplitr [H3]
      rotate_left
      · iexact H3
      · ipureintro; exact ((View.read_writes_full _ _ _ _ _).trans (congrArg k1_pay1 ((View.readAt_full ..).trans h1)))
  · rw [dif_neg h]
    unfold kept1 owns
    iintro ⟨⟨%f1, %h1, H1⟩, ⟨%x2, %f2, %h2, H2⟩, ⟨%x3, %e3, %f3, %h3, H3⟩, Hk⟩
    sl_exec
    sl_step
    have g3 := h3.trans (e3.resolve_left h)
    iapply Hk
    isplitl [H1]; · iexists f1; isplitr [H1]; (· ipureintro; exact h1); iexact H1
    isplitl [H2]
    · iexists _
      isplitr [H2]
      rotate_left
      · iexact H2
      · ipureintro
        exact (View.read_writes_full _ _ _ _ _).trans (congrArg₂ k1_pay2
          (funext fun y => (View.readAt_apply ..).trans (congrFun h1 _)) ((View.readAt_full ..).trans g3))
    iexists _
    isplitr [H3]
    · ipureintro; exact .inr (e3.resolve_left h)
    · iexists f3
      isplitr [H3]
      · ipureintro; exact h3
      · iexact H3

end Body

/-! ## The pipelined call's proof data -/

variable (V : (c : Dev nD) → (b : Ref sig .tc) → Buf (Elt F) ((c : Thread nD τ).loc b)) (g : Dev nD → Stamps)

abbrev sc3 : Memref sig .tc .vmem S64x4096 .bf16 := Memref.whole cc1_scratch0

/-- The block of the mask a point writes. -/
def maskAt (c : Dev nD) (t : Fin cfg1.N) : FVec F S256x4096 .f32 := k1_pay2 (F := F) (own (g c) (grid1.coords t)) (k1_pay1 (line (g c)))

def dat1 (c : Dev nD) : Dat τ (Elt F) (HIx 1) ℕ UU ℕ cfg1 c where
  A w := V c (Pipeline.arrRef spec1 w)
  after w t := match w with
    | ⟨0, _⟩ => line (g c)
    | ⟨1, _⟩ => maskAt g c t
  Φ t := kept1 c sc3 (g c) (t.val = 0)
  q _ := fullShare
  owed _ := 0
  recorded _ := { p | (K (F := F)).lev ((c : Thread nD τ), p.1) p.2 ≤ 8 }

variable (adm : (p : Fin 1) → (pcfgs (F := F) p).Adm)

def dats1 : (p : Fin 1) → (c : Dev nD) → Dat τ (Elt F) (HIx 1) ℕ UU ℕ (Pipeline.pin (pcfgs (F := F)) adm p) c
  | ⟨0, _⟩ => fun c => dat1 V g c

theorem A1_eq (c : Dev nD) (w : Fin cfg1.W) : (dat1 V g c).A w = V c (Pipeline.arrRef spec1 w) := by
  dsimp only [dat1]
theorem after1_0 (c : Dev nD) (t : Fin cfg1.N) : (dat1 V g c).after 0 t = line (g c) := by dsimp only [dat1]
theorem after1_1 (c : Dev nD) (t : Fin cfg1.N) : (dat1 V g c).after 1 t = maskAt g c t := by dsimp only [dat1]

/-- The row's block at a point, as the array holds it. -/
abbrev blk0 (c : Dev nD) (t : Fin cfg1.N) : ((cfg1.win 0).xblock (cfg1.grid.coords t)).Idx → Elt F (cfg1.win 0).elt :=
  ((cfg1.win 0).blk t).view.read (Elt F) (V c (Pipeline.arrRef spec1 0))

/-- The one block of the timestep row is the row. -/
theorem blk_line (hV : ∀ c, V c main_v13 = line (g c)) (c : Dev nD) (t : Fin cfg1.N) : blk0 V c t = line (g c) := by
  funext y
  refine (congrArg (V c main_v13) (funext fun a => Fin.ext ?_)).trans (congrFun (hV c) y)
  fin_cases a
  · show 0 * 1 + 1 * (y 0).val = (y 0).val; omega
  · show 0 * 4096 + 1 * (y 1).val = (y 1).val; omega

theorem before1_0 (hV : ∀ c, V c main_v13 = line (g c)) (c : Dev nD) (t : Fin cfg1.N) (d) : (dat1 V g c).before 0 t d = line (g c) :=
  (((dat1 V g c).before_in_eq_fetched 0 rfl (fun _ => rfl) (fun _ _ _ => rfl)
    (fun t => by rw [after1_0, ← blk_line V g hV c t]; unfold Dat.blockOf blk0; rw [A1_eq]; try rfl) t d).trans
    (by unfold Dat.fetched Dat.blockOf; rw [A1_eq]; try rfl : _ = blk0 V c t)).trans (blk_line V g hV c t)

/-- The guard holds at the first point. -/
theorem first_of (t : Fin cfg1.N) (h : t.val = 0) : first (grid1.coords t) := by
  have e : t = t1_0 := Fin.ext h
  subst e; rfl

theorem kept1_mono (c : Dev nD) (gc : Stamps) {A B : Prop} (h : A → B) : kept1 (F := F) c sc3 gc A ⊢ kept1 (F := F) c sc3 gc B := by
  unfold kept1
  iintro ⟨%x3, %h3, H3⟩
  iexists x3; isplitr [H3]; (· ipureintro; exact h3.imp_left h); iexact H3

def maskPre (c : Dev nD) (t : Fin cfg1.N) : sProp 𝕄 :=
  iprop((dat1 V g c).Φ t.castSucc ∗ (dat1 V g c).owesAt none t.castSucc
    ∗ (∃ d, owns (c : Thread nD τ) (st1_0 t) fullShare ((dat1 V g c).before 0 t d))
    ∗ (∃ d, owns (c : Thread nD τ) (st1_1 t) fullShare ((dat1 V g c).before 1 t d)))
def maskPost (c : Dev nD) (t : Fin cfg1.N) : sProp 𝕄 :=
  iprop((dat1 V g c).Φ t.succ ∗ (dat1 V g c).owesAt none t.succ
    ∗ owns (c : Thread nD τ) (st1_0 t) fullShare ((dat1 V g c).after 0 t)
    ∗ owns (c : Thread nD τ) (st1_1 t) fullShare ((dat1 V g c).after 1 t))

theorem sound_mask (hV : ∀ c, V c main_v13 = line (g c)) (c : Dev nD) (t : Fin cfg1.N) :
    maskPre V g c t ⊢ wp frame (wpE (defs₀ (F := F)) Variants.none (c : Thread nD τ) none) Set.univ (bodyAt1 t) (fun _ => maskPost V g c t) := by
  unfold maskPre maskPost bodyAt1
  rw [after1_0, after1_1]
  simp only [before1_0 V g hV]
  rw [show (dat1 V g c).Φ t.succ = kept1 c sc3 (g c) (t.succ.val = 0) from rfl,
    show (dat1 V g c).Φ t.castSucc = kept1 c sc3 (g c) (t.castSucc.val = 0) from rfl,
    show (dat1 V g c).owesAt none t.succ = (dat1 V g c).owesAt none t.castSucc from rfl]
  iintro ⟨HS, HW, ⟨%d0, H0⟩, ⟨%d1, H1⟩⟩
  iapply (mask_run c (grid1.coords t) _ _ _ _ sc3 (Memref.isWhole_whole _) (g c) _)
  isplitl [H0]; · iexact H0
  isplitl [H1]; · iexists _; iexact H1
  isplitl [HS]; · iapply (kept1_mono c (g c) (fun h => first_of t h)); iexact HS
  iintro ⟨H0, H1, HS⟩
  isplitl [HS]; · iapply (kept1_mono c (g c) False.elim); iexact HS
  isplitl [HW]; · iexact HW
  isplitl [H0]; · iexact H0
  iexact H1

theorem defs₀_mask (t : Fin cfg1.N) :
    defs₀ (F := F) .tc cfg1.body (cfg1.bodyArgs t (cfg1.slots t)) = bodyAt1 t := rfl

theorem mask_obligation (hV : ∀ c, V c main_v13 = line (g c)) (c : Dev nD) :
    BodyObligation (dat1 V g c) (defs₀ (F := F)) Variants.none none Set.univ := fun t => by
  rw [bigSep_W1, bigSep_W1, defs₀_mask]
  exact triple_restated (sound_mask V g hV c t) rfl .rfl fun _ => .rfl

/-! ## The pipelined call as one step -/

/-- What the TensorCore carries of its obligations past the SparseCore call. -/
def carried (c : Dev nD) : sProp 𝕄 :=
  iprop(∃ W, ⌜(K (F := F)).WBelow (c : Thread nD τ) W 8⌝ ∗ owes (c : Thread nD τ) (0 : CellTallies nD τ sig (HIx 1)) W)

/-- The mask's array after the call. -/
def masked (c : Dev nD) : Buf (Elt F) ((c : Thread nD τ).loc main_v14) := (dat1 V g c).arrAt 1 cfg1.N

variable (Vp : (c : Dev nD) → (b : Ref sig .tc) → Buf (Elt F) ((c : Thread nD τ).loc b))

set_option backward.isDefEq.respectTransparency.types false in
def region (R : Dev nD → sProp 𝕄) (hV : ∀ c, V c main_v13 = line (g c)) (hVp_out : ∀ c, Vp c main_v14 = masked V g c)
    (hVp_ne : ∀ c (b : Ref sig .tc), b ≠ main_v14 → Vp c b = V c b) :
    Pipeline.RegionSeg (pcfgs (F := F)) adm (dats1 V g adm) none defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (mask_obligation V g hV c).loose
  hwaits := Pipeline.hwaits_of_owed_zero _ _ _ _ (K (F := F)).L (K (F := F)).lev 0 fun _ _ => rfl
  pre c := iprop(unscopedBufs c (V c) ∗ R c ∗ carried c)
  post c := iprop(unscopedBufs c (Vp c) ∗ R c ∗ carried c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (dats1 V g adm) launch1.win launch1.arr_whole c
      ((dats1 V g adm 0 c).share_full fun _ => rfl) (V c) fun _ => rfl
    unfold carried
    iintro ⟨⟨Hub, HR, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [scopedRest1_eq, show (dats1 V g adm 0 c).Φ 0 = kept1 c sc3 (g c) (0 = 0) from rfl]
    unfold kept1
    simp only [owns_whole]
    iintro ⟨-, -, ⟨%f3, H3⟩⟩
    iexists f3; isplitr; · ipureintro; exact .inl trivial
    iexact H3
  hout c := by
    rw [Pipeline.ownSems0_none, scopedRest1_eq,
      show (dats1 V g adm 0 c).Φ (Fin.last _) = kept1 c sc3 (g c) ((Fin.last cfg1.N).val = 0) from rfl]
    unfold kept1
    simp only [owns_whole]
    iintro ⟨%x3, -, H3⟩
    isplitr; · iempintro
    isplitr; · iempintro
    iexists x3; iexact H3
  hexit c := by
    have hjoin := Pipeline.unscopedBufs_of_arrays (p := 0) (pcfgs (F := F)) adm (Ix := HIx 1) (Name := ℕ) (U := UU) (Lvl := ℕ) launch1.win launch1.arr_whole c
      (dats1 V g adm) ((dats1 V g adm 0 c).share_full fun _ => rfl) (V c) (Vp c) ((dats1 V g adm 0 c).arrAt · cfg1.N)
      (fun w => by
        fin_cases w
        · exact ((dats1 V g adm 0 c).arrAt_in 0 rfl _).trans (hVp_ne c main_v13 (by decide)).symm
        · exact (hVp_out c).symm)
      (fun b hb => hVp_ne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold carried Pipeline.Dat.owesAt Pipeline.owesWithin
    icases HO with ⟨%W, %hW, HO⟩; iexists W
    isplitr
    · ipureintro
      intro p hp
      rcases hW hp with h | h
      · exact h
      · obtain ⟨w, s, rfl⟩ := h; exact Nat.zero_le _
    iexact HO

end Cert.SparseIdeal.Hand

end
-- ==== Proof.ScHost.lean ====
/-
  The second program's host operations before its SparseCore call: the token numbers sixteen lanes a row, each row of
  eight twice over, and the row numbers beside them.
-/
module

public import proofs.«01_k».proof.Proof.ScMask
public import proofs.«01_k».proof.Proof.Run
public import Idealize.ShloMosaic.Lib.Pointwise

@[expose] public section

set_option maxRecDepth 16384

noncomputable section

namespace Cert.SparseIdeal.Hand

open Cert.SparseIdeal Cert.SparseIdeal.Gen Cert.Mask
open Idealize.ShloMosaic Idealize.ShloMosaic.TcCoe Idealize.ShloMosaic.StableHlo
open Cert.KernelIdeal.Hand (toks)

variable {F : FTy → Type} [FloatOps F]

/-! ## What they compute -/

abbrev wide (T : S64x8.Idx → BitVec 32) : S64x16.Idx → BitVec 32 :=
  concatenate S64x16 1 [⟨S64x8, T⟩, ⟨S64x8, T⟩] concatenates_S64x8_S64x8_S64x16_d1

/-- A table with each row twice over, flattened. -/
def twice (T : S64x8.Idx → BitVec 32) : S1024.Idx → BitVec 32 := shapeCast S1024 (wide T) shapeCasts_S64x16_S1024

/-- The row numbers beside it. -/
def marks : S1024.Idx → BitVec 32 :=
  shapeCast S1024 (broadcastInDim S64x16 ![0, 1] bcast_S64x1_S64x16_0_1 (broadcastInDim S64x1 ![0] bcast_S64_S64x1_0 (iotaInDim S64 32 0)))
    shapeCasts_S64x16_S1024

theorem flat_row (y : S1024.Idx) : (y 0).val / 16 < 64 := by have h : (y 0).val < 1024 := (y 0).isLt; omega

theorem twice_at (T : S64x8.Idx → BitVec 32) (y : S1024.Idx) :
    twice T y = toks T ⟨(y 0).val / 16, flat_row y⟩ ⟨(y 0).val % 8, Nat.mod_lt _ (by decide)⟩ := by
  unfold twice
  have h : (y 0).val < 1024 := (y 0).isLt
  rw [shapeCast_apply (wide T) shapeCasts_S64x16_S1024 y
    (ValueIdx.ix2 (⟨(y 0).val / 16, flat_row y⟩ : Fin 64) (⟨(y 0).val % 16, Nat.mod_lt _ (by decide)⟩ : Fin 16)) (by
      rw [Shape.rowMajor_val_two, Shape.rowMajor_val_one]
      show (y 0).val / 16 * 16 + (y 0).val % 16 = (y 0).val
      omega)]
  unfold wide toks
  rw [concatenate_pair_apply]
  split
  · next hlt =>
    have hl : (y 0).val % 16 < 8 := hlt
    refine congrArg T (funext fun a => Fin.ext ?_)
    rw [Shape.Idx.norm_def]
    fin_cases a
    · rfl
    · show (y 0).val % 16 = (y 0).val % 8; omega
  · next hlt =>
    have hl : ¬ (y 0).val % 16 < 8 := hlt
    refine congrArg T (funext fun a => Fin.ext ?_)
    rw [Shape.Idx.norm_def]
    fin_cases a
    · rfl
    · show (y 0).val % 16 - 8 = (y 0).val % 8; omega

theorem marks_at (y : S1024.Idx) : marks y = BitVec.ofNat 32 ((y 0).val / 16) := by
  unfold marks
  have h : (y 0).val < 1024 := (y 0).isLt
  rw [shapeCast_apply _ shapeCasts_S64x16_S1024 y
    (ValueIdx.ix2 (⟨(y 0).val / 16, flat_row y⟩ : Fin 64) (⟨(y 0).val % 16, Nat.mod_lt _ (by decide)⟩ : Fin 16)) (by
      rw [Shape.rowMajor_val_two, Shape.rowMajor_val_one]
      show (y 0).val / 16 * 16 + (y 0).val % 16 = (y 0).val
      omega)]
  rfl

theorem names_eq (x2 x3 : S64x8.Idx → BitVec 32) :
    concatenate S2048 0 [⟨S1024, twice x2⟩, ⟨S1024, twice x3⟩] concatenates_S1024_S1024_S2048_d0 = names (toks x2) (toks x3) := by
  funext y
  have h : (y 0).val < 2048 := (y 0).isLt
  rw [concatenate_pair_apply]
  unfold names
  split
  · next hlt =>
    have hl : (y 0).val < 1024 := hlt
    rw [dif_pos (by omega), twice_at]
    simp only [Shape.Idx.norm_def]
    rfl
  · next hlt =>
    have hl : ¬ (y 0).val < 1024 := hlt
    rw [dif_neg (by omega), twice_at]
    simp only [Shape.Idx.norm_def]
    refine congrArg₂ (toks x3) (Fin.ext ?_) (Fin.ext ?_)
    · show ((y 0).val - 1024) / 16 = (y 0).val / 16 - 64; omega
    · show ((y 0).val - 1024) % 8 = (y 0).val % 8; omega

theorem steps_eq : concatenate S2048 0 [⟨S1024, marks⟩, ⟨S1024, marks⟩] concatenates_S1024_S1024_S2048_d0 = steps := by
  funext y
  have h : (y 0).val < 2048 := (y 0).isLt
  rw [concatenate_pair_apply]
  unfold steps
  split
  · next hlt =>
    have hl : (y 0).val < 1024 := hlt
    rw [marks_at]
    simp only [Shape.Idx.norm_def]
    refine congrArg (BitVec.ofNat 32) ?_
    show (y 0).val / 16 = (y 0).val / 16 % 64; omega
  · next hlt =>
    have hl : ¬ (y 0).val < 1024 := hlt
    rw [marks_at]
    simp only [Shape.Idx.norm_def]
    refine congrArg (BitVec.ofNat 32) ?_
    show ((y 0).val - 1024) / 16 = (y 0).val / 16 % 64; omega

/-- The vector laid along one row. -/
theorem line_eq (g : Stamps) : shapeCast S1x4096 (vec g) shapeCasts_S4096_S1x4096 = line g := by
  funext y
  rw [shapeCast_apply (vec g) shapeCasts_S4096_S1x4096 y (ValueIdx.ix1 (y 1 : Fin 4096)) (by
    have h0 : (y 0).val < 1 := (y 0).isLt
    rw [Shape.rowMajor_val_two, Shape.rowMajor_val_one]
    show (y 1).val = (y 0).val * 4096 + (y 1).val
    omega)]
  rfl

/-! ## The operations, and what the buffers hold after them -/

abbrev ops : List (HloOp τ sig (Elt F)) :=
  [ StableHlo.nullary main_v0 (iotaInDim S64 32 0),
    StableHlo.unary main_v0 main_v1 (broadcastInDim S64x1 ![0] bcast_S64_S64x1_0 : (⟨S64, .i32⟩ : BufTy).Contents (Elt F) → (⟨S64x1, .i32⟩ : BufTy).Contents (Elt F)),
    StableHlo.binary main_arg2 main_arg2 main_v2 ((fun a b => concatenate S64x16 1 [⟨S64x8, a⟩, ⟨S64x8, b⟩] concatenates_S64x8_S64x8_S64x16_d1) : (⟨S64x8, .i32⟩ : BufTy).Contents (Elt F) → (⟨S64x8, .i32⟩ : BufTy).Contents (Elt F) → (⟨S64x16, .i32⟩ : BufTy).Contents (Elt F)),
    StableHlo.reshape main_v2 main_v3 (rfl : (.i32 : EltTy) = .i32) shapeCasts_S64x16_S1024,
    StableHlo.binary main_arg3 main_arg3 main_v4 ((fun a b => concatenate S64x16 1 [⟨S64x8, a⟩, ⟨S64x8, b⟩] concatenates_S64x8_S64x8_S64x16_d1) : (⟨S64x8, .i32⟩ : BufTy).Contents (Elt F) → (⟨S64x8, .i32⟩ : BufTy).Contents (Elt F) → (⟨S64x16, .i32⟩ : BufTy).Contents (Elt F)),
    StableHlo.reshape main_v4 main_v5 (rfl : (.i32 : EltTy) = .i32) shapeCasts_S64x16_S1024,
    StableHlo.binary main_v3 main_v5 main_v6 ((fun a b => concatenate S2048 0 [⟨S1024, a⟩, ⟨S1024, b⟩] concatenates_S1024_S1024_S2048_d0) : (⟨S1024, .i32⟩ : BufTy).Contents (Elt F) → (⟨S1024, .i32⟩ : BufTy).Contents (Elt F) → (⟨S2048, .i32⟩ : BufTy).Contents (Elt F)),
    StableHlo.unary main_v1 main_v7 (broadcastInDim S64x16 ![0, 1] bcast_S64x1_S64x16_0_1 : (⟨S64x1, .i32⟩ : BufTy).Contents (Elt F) → (⟨S64x16, .i32⟩ : BufTy).Contents (Elt F)),
    StableHlo.reshape main_v7 main_v8 (rfl : (.i32 : EltTy) = .i32) shapeCasts_S64x16_S1024,
    StableHlo.unary main_v1 main_v9 (broadcastInDim S64x16 ![0, 1] bcast_S64x1_S64x16_0_1 : (⟨S64x1, .i32⟩ : BufTy).Contents (Elt F) → (⟨S64x16, .i32⟩ : BufTy).Contents (Elt F)),
    StableHlo.reshape main_v9 main_v10 (rfl : (.i32 : EltTy) = .i32) shapeCasts_S64x16_S1024,
    StableHlo.binary main_v8 main_v10 main_v11 ((fun a b => concatenate S2048 0 [⟨S1024, a⟩, ⟨S1024, b⟩] concatenates_S1024_S1024_S2048_d0) : (⟨S1024, .i32⟩ : BufTy).Contents (Elt F) → (⟨S1024, .i32⟩ : BufTy).Contents (Elt F) → (⟨S2048, .i32⟩ : BufTy).Contents (Elt F)) ]

theorem ops_fresh : ∀ op ∈ (ops : List (HloOp τ sig (Elt F))), op.fresh = ∅ := by
  intro op h
  simp only [ops, List.mem_cons, List.not_mem_nil, or_false] at h
  rcases h with rfl | rfl | rfl | rfl | rfl | rfl | rfl | rfl | rfl | rfl | rfl | rfl <;> rfl

variable (V : Valuation τ sig (Elt F))

theorem after_v6 : after ops V main_v6 = names (toks (V main_arg2)) (toks (V main_arg3)) := by
  refine Eq.trans ?_ (names_eq _ _)
  simp only [ops]
  after_results_simp <;> rfl

theorem after_v11 : after ops V main_v11 = steps := by
  refine Eq.trans ?_ steps_eq
  simp only [ops]
  after_results_simp <;> rfl

theorem after_arg0 : after ops V main_arg0 = V main_arg0 := by
  simp only [ops]
  after_results_simp <;> rfl
theorem after_arg1 : after ops V main_arg1 = V main_arg1 := by
  simp only [ops]
  after_results_simp <;> rfl
theorem after_arg2 : after ops V main_arg2 = V main_arg2 := by
  simp only [ops]
  after_results_simp <;> rfl
theorem after_arg3 : after ops V main_arg3 = V main_arg3 := by
  simp only [ops]
  after_results_simp <;> rfl

end Cert.SparseIdeal.Hand

end
-- ==== Proof.ScRun.lean ====
/-
  The second program's run: the host operations, the SparseCore call, the reshape and the pipelined call, from the
  arguments to the mask as the pipelined call leaves it.
-/
module

public import proofs.«01_k».proof.Proof.ScHost

@[expose] public section

set_option maxRecDepth 16384

noncomputable section

namespace Cert.SparseIdeal.Hand

open Cert.SparseIdeal Cert.SparseIdeal.Gen Cert.Mask
open Idealize.ShloMosaic Idealize.ShloMosaic.TcCoe Idealize.ShloMosaic.Tactic Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Hand (toks)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

abbrev tabs : (p : Fin 1) → (pcfgs (F := F) p).Adm := fun q => (cfgs q).toPCfg_adm

def u₀ : UU := (initOf (K (F := F)).hsCells (K (F := F)).hsToks,
  (initOf (Pipeline.cells (nD := nD) (τ := τ) cfgs cellOf_inj) (Pipeline.launchToks (nD := nD) (τ := τ) cfgs cellOf_inj), 1))

/-- The pipelined call's share of it, on a device. -/
def G (d : Dev nD) : sProp 𝕄 :=
  iprop(Pipeline.cellsGhost (Pipeline.pin (pcfgs (F := F)) tabs) EP 0 d ∗ Pipeline.toksInit (Pipeline.pin (pcfgs (F := F)) tabs) EP 0 d)

/-! ## What the call is handed and what comes back -/

abbrev tS (d : Dev nD) : Tokens := toks (m ((d : Thread nD τ).loc main_arg2))
abbrev tA (d : Dev nD) : Tokens := toks (m ((d : Thread nD τ).loc main_arg3))
abbrev table (d : Dev nD) : Stamps := stamps (tS m d) (tA m d)

theorem own_EP (x : UP) : (BI.own (((Emb.inl : Emb UP (UP × Counters)).trans embR) x) : sProp 𝕄) ⊢ BI.own (EP (F := F) x) := by
  unfold EP; exact .rfl

theorem ghost_eq : (iprop((bigSep Finset.univ fun c : Dev nD => bigSep Finset.univ fun p => Pipeline.cellsGhost cfgs (EP (F := F)) p c)
      ∗ bigSep Finset.univ fun c : Dev nD => bigSep Finset.univ fun p => Pipeline.toksInit cfgs (EP (F := F)) p c) : sProp 𝕄)
    = bigSep Finset.univ fun d : Dev nD => G (F := F) d := by
  unfold G
  rw [show (Finset.univ : Finset (Dev nD)) = {0} by decide]
  simp only [bigSep_singleton]

theorem hu₀ : (ownU (u₀ (F := F)) : sProp 𝕄)
    ⊢ |={Set.univ}=> (BI.own (EH (F := F) (initOf (K (F := F)).hsCells (K (F := F)).hsToks))
        ∗ (bigSep Finset.univ fun d : Dev nD => G (F := F) d)
        ∗ bigSep Finset.univ fun thr => bigSep Finset.univ fun q : Fin 1 => (P (F := F) (tS m) (tA m)).x q thr) := by
  unfold u₀
  iintro Hu
  ihave H := (ownU_pair _ _) $$ Hu
  icases H with ⟨HH, HR⟩
  ihave H := (own_pair_emb embR _ _) $$ HR
  icases H with ⟨HP, -⟩
  ihave HP := (own_EP (F := F) _) $$ HP
  imod (Pipeline.fund_ghost cfgs (EP (F := F)) cellOf_inj) $$ HP with ⟨HC, HK⟩
  imodintro
  isplitl [HH]; · iexact HH
  isplitl [HC HK]
  · rw [← ghost_eq]
    isplitl [HC]; · iexact HC
    iexact HK
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The buffers' contents along the way -/

/-- The TensorCore's unscoped buffers. -/
def arrays : Finset (DevRef τ sig) := (tcRefs τ sig).filter fun b => ¬ b.isScoped

theorem unscopedBufs_arrays (c : Dev nD) (W : Valuation τ sig (Elt F)) :
    (unscopedBufs c (fun b => W b) : sProp 𝕄) = held (c : Thread nD τ) arrays W := by
  unfold unscopedBufs held arrays tcRefs
  rw [Finset.filter_map, bigSep_map]
  rfl

abbrev dv6 : DevRef τ sig := Proc.devRef .tc (main_v6 : Ref sig .tc)
abbrev dv11 : DevRef τ sig := Proc.devRef .tc (main_v11 : Ref sig .tc)
abbrev dv12 : DevRef τ sig := Proc.devRef .tc (main_v12 : Ref sig .tc)
abbrev dv13 : DevRef τ sig := Proc.devRef .tc (main_v13 : Ref sig .tc)
abbrev dv14 : DevRef τ sig := Proc.devRef .tc (main_v14 : Ref sig .tc)

/-- The call's three arrays. -/
abbrev three : Finset (DevRef τ sig) := {dv6, dv11, dv12}
theorem three_sub : three ⊆ arrays := by decide

theorem held_three (d : Dev nD) (W : Valuation τ sig (Elt F)) :
    (held (T d) three W : sProp 𝕄) = iprop((nLoc d ↦{fullShare} W dv6) ∗ (tLoc d ↦{fullShare} W dv11) ∗ oLoc d ↦{fullShare} W dv12) := by
  unfold held three
  rw [SparseCore.bigSep_insert' (by decide), SparseCore.bigSep_insert' (by decide), bigSep_singleton]

abbrev asLine : HloOp τ sig (Elt F) := StableHlo.reshape main_v12 main_v13 (rfl : (.i32 : EltTy) = .i32) shapeCasts_S4096_S1x4096

theorem ops_sub : ∀ op ∈ (ops : List (HloOp τ sig (Elt F))), op.bufs ⊆ arrays := by
  intro op h
  simp only [ops, List.mem_cons, List.not_mem_nil, or_false] at h
  rcases h with rfl | rfl | rfl | rfl | rfl | rfl | rfl | rfl | rfl | rfl | rfl | rfl
  · exact show ({Proc.devRef .tc (main_v0 : Ref sig .tc)} : Finset (DevRef τ sig)) ⊆ arrays by decide
  · exact show ({Proc.devRef .tc (main_v0 : Ref sig .tc), Proc.devRef .tc (main_v1 : Ref sig .tc)} : Finset (DevRef τ sig)) ⊆ arrays by decide
  · exact show ({Proc.devRef .tc (main_arg2 : Ref sig .tc), Proc.devRef .tc (main_arg2 : Ref sig .tc), Proc.devRef .tc (main_v2 : Ref sig .tc)} : Finset (DevRef τ sig)) ⊆ arrays by decide
  · exact show ({Proc.devRef .tc (main_v2 : Ref sig .tc), Proc.devRef .tc (main_v3 : Ref sig .tc)} : Finset (DevRef τ sig)) ⊆ arrays by decide
  · exact show ({Proc.devRef .tc (main_arg3 : Ref sig .tc), Proc.devRef .tc (main_arg3 : Ref sig .tc), Proc.devRef .tc (main_v4 : Ref sig .tc)} : Finset (DevRef τ sig)) ⊆ arrays by decide
  · exact show ({Proc.devRef .tc (main_v4 : Ref sig .tc), Proc.devRef .tc (main_v5 : Ref sig .tc)} : Finset (DevRef τ sig)) ⊆ arrays by decide
  · exact show ({Proc.devRef .tc (main_v3 : Ref sig .tc), Proc.devRef .tc (main_v5 : Ref sig .tc), Proc.devRef .tc (main_v6 : Ref sig .tc)} : Finset (DevRef τ sig)) ⊆ arrays by decide
  · exact show ({Proc.devRef .tc (main_v1 : Ref sig .tc), Proc.devRef .tc (main_v7 : Ref sig .tc)} : Finset (DevRef τ sig)) ⊆ arrays by decide
  · exact show ({Proc.devRef .tc (main_v7 : Ref sig .tc), Proc.devRef .tc (main_v8 : Ref sig .tc)} : Finset (DevRef τ sig)) ⊆ arrays by decide
  · exact show ({Proc.devRef .tc (main_v1 : Ref sig .tc), Proc.devRef .tc (main_v9 : Ref sig .tc)} : Finset (DevRef τ sig)) ⊆ arrays by decide
  · exact show ({Proc.devRef .tc (main_v9 : Ref sig .tc), Proc.devRef .tc (main_v10 : Ref sig .tc)} : Finset (DevRef τ sig)) ⊆ arrays by decide
  · exact show ({Proc.devRef .tc (main_v8 : Ref sig .tc), Proc.devRef .tc (main_v10 : Ref sig .tc), Proc.devRef .tc (main_v11 : Ref sig .tc)} : Finset (DevRef τ sig)) ⊆ arrays by decide

theorem asLine_sub : (asLine (F := F)).bufs ⊆ arrays := show ({dv12, dv13} : Finset (DevRef τ sig)) ⊆ arrays by decide

/-- At the launch; after the first operations; after the call; after the reshape; at the end. -/
def W0 (d : Dev nD) : Valuation τ sig (Elt F) := fun b => m (d, b)
def W1 (d : Dev nD) : Valuation τ sig (Elt F) := after ops (W0 m d)
def W2 (d : Dev nD) : Valuation τ sig (Elt F) := Function.update (W1 m d) dv12 (stampsAt d (tS m d) (tA m d))
def W3 (d : Dev nD) : Valuation τ sig (Elt F) := (asLine (F := F)).result (W2 m d)

abbrev V3 (c : Dev nD) (b : Ref sig .tc) : Buf (Elt F) ((c : Thread nD τ).loc b) := W3 m c b

def W4 (d : Dev nD) : Valuation τ sig (Elt F) := Function.update (W3 m d) dv14 (masked (V3 m) (table m) d)
abbrev V4 (c : Dev nD) (b : Ref sig .tc) : Buf (Elt F) ((c : Thread nD τ).loc b) := W4 m c b

theorem W1_v6 (d : Dev nD) : W1 m d dv6 = namesAt d (tS m d) (tA m d) := after_v6 (W0 m d)
theorem W1_v11 (d : Dev nD) : W1 m d dv11 = stepsAt d := after_v11 (W0 m d)
theorem W2_v6 (d : Dev nD) : W2 m d dv6 = namesAt d (tS m d) (tA m d) :=
  (Function.update_of_ne (show dv6 ≠ dv12 by decide) _ _).trans (W1_v6 m d)
theorem W2_v11 (d : Dev nD) : W2 m d dv11 = stepsAt d :=
  (Function.update_of_ne (show dv11 ≠ dv12 by decide) _ _).trans (W1_v11 m d)
theorem W2_v12 (d : Dev nD) : W2 m d dv12 = stampsAt d (tS m d) (tA m d) := Function.update_self _ _ _

theorem W2_rest (d : Dev nD) : (held (T d) (arrays \ three) (W2 m d) : sProp 𝕄) = held (T d) (arrays \ three) (W1 m d) :=
  held_congr (T d) fun b hb => Function.update_of_ne (fun h : b = dv12 => (Finset.mem_sdiff.mp hb).2 (by rw [h]; decide)) _ _

theorem V3_line (d : Dev nD) : V3 m d main_v13 = line (table m d) := by
  show (asLine (F := F)).result (W2 m d) dv13 = _
  rw [StableHlo.reshape_result]
  refine Eq.trans ?_ (line_eq (table m d))
  show shapeCast S1x4096 (W2 m d dv12) _ = _
  rw [W2_v12]

theorem V4_out (c : Dev nD) : V4 m c main_v14 = masked (V3 m) (table m) c := Function.update_self _ _ _
theorem V4_ne (c : Dev nD) (b : Ref sig .tc) (h : b ≠ main_v14) : V4 m c b = V3 m c b :=
  Function.update_of_ne (fun e => h (Proc.devRef_injective _ e)) _ _

/-- The arguments are the launch's throughout. -/
theorem W4_ne (d : Dev nD) (b : DevRef τ sig) (h12 : b ≠ dv12) (h13 : b ≠ dv13) (h14 : b ≠ dv14) : W4 m d b = W1 m d b :=
  (Function.update_of_ne h14 _ _).trans (((asLine (F := F)).result_of_not_mem _ (b := b) (show b ∉ ({dv13} : Finset (DevRef τ sig)) from fun h => h13 (Finset.mem_singleton.mp h))).trans
    (Function.update_of_ne h12 _ _))
theorem W4_arg0 (d : Dev nD) : W4 m d main_arg0 = m ((d : Thread nD τ).loc main_arg0) :=
  (W4_ne m d _ (by decide) (by decide) (by decide)).trans (after_arg0 (W0 m d))
theorem W4_arg1 (d : Dev nD) : W4 m d main_arg1 = m ((d : Thread nD τ).loc main_arg1) :=
  (W4_ne m d _ (by decide) (by decide) (by decide)).trans (after_arg1 (W0 m d))
theorem W4_arg2 (d : Dev nD) : W4 m d main_arg2 = m ((d : Thread nD τ).loc main_arg2) :=
  (W4_ne m d _ (by decide) (by decide) (by decide)).trans (after_arg2 (W0 m d))
theorem W4_arg3 (d : Dev nD) : W4 m d main_arg3 = m ((d : Thread nD τ).loc main_arg3) :=
  (W4_ne m d _ (by decide) (by decide) (by decide)).trans (after_arg3 (W0 m d))

/-! ## The program -/

/-- The program after its first operations. -/
def later (d : Dev nD) : Prog (TpuEff nD τ sig (Elt F) (SparseCore.Sig (ΛP (F := F)) 1) .tc) PUnit := do
  sc.run d 0
  hlo rfl asLine (fun _ => .ret ⟨⟩)
  Prog.lift (.customCall (SparseCore.inner (Pipeline.entry 0)) ())
  pure ⟨⟩

set_option maxRecDepth 8192 in
theorem main_eq (d : Dev nD) : main (F := F) d = seq ops >>= fun _ => later d := rfl

def FIN (d : Dev nD) : sProp 𝕄 := held (T d) arrays (W4 m d)

/-- The pipelined call alone. -/
abbrev inner : Prog (TpuEff nD τ sig (Elt F) (ΛP (F := F)) .tc) PUnit := .op (.customCall (Pipeline.entry 0) ()) .ret

theorem inner_lift : (Prog.lift (.customCall (SparseCore.inner (Pipeline.entry 0)) ()) : Prog (TpuEff nD τ sig (Elt F) (SparseCore.Sig (ΛP (F := F)) 1) .tc) PUnit)
    = SparseCore.liftProg (inner (F := F)) := rfl

abbrev reg : Pipeline.RegionSeg (pcfgs (F := F)) tabs (dats1 (V3 m) (table m) tabs) none defs₀ Variants.none (K (F := F)).L (K (F := F)).lev 0 :=
  region (V3 m) (table m) tabs (V4 m) (fun _ => iprop(emp)) (V3_line m) (V4_out m) (V4_ne m)

theorem reg_pre (d : Dev nD) : (reg m).pre d = iprop(unscopedBufs d (fun b => W3 m d b) ∗ emp ∗ carried d) := rfl
theorem reg_post (d : Dev nD) : (reg m).post d = iprop(unscopedBufs d (fun b => W4 m d b) ∗ emp ∗ carried d) := rfl

/-- The pipelined call inside the whole program. -/
theorem last_call [∀ e, Nonempty (Elt F e)] (d : Dev nD) (Q : PUnit → sProp 𝕄) :
    iprop((boundary (T d) ∗ held (T d) arrays (W4 m d) ∗ carried d -∗ Q ⟨⟩)
        ∗ boundary (T d) ∗ held (T d) arrays (W3 m d) ∗ carried d ∗ levAts (K (F := F)).L (K (F := F)).lev ∗ G d)
      ⊢ wp Idealize.ShloMosaic.frame (wpE ((K (F := F)).defs (D (F := F))) 𝒱 (T d) none) Set.univ
          (SparseCore.liftProg (inner (F := F))) Q := by
  refine BIBase.Entails.trans ?_ ((K (F := F)).wp_liftProg (D (F := F)) 𝒱 (T d) Set.univ none (inner (F := F)) Q)
  have hseg := Pipeline.RegionSeg.wp (pcfgs (F := F)) tabs (dats1 (V3 m) (table m) tabs) none cellOf_inj EP defs₀ Variants.none
    (K (F := F)).L (K (F := F)).lev (reg m) d none
    (fun u hu => by cases hu) .ret Q
  refine BIBase.Entails.trans ?_ hseg
  unfold G
  rw [reg_pre, reg_post, ← unscopedBufs_arrays, ← unscopedBufs_arrays]
  iintro ⟨Hk, Hb, Hh, Hc, HL, HG1, HG2⟩
  isplitl [Hk]
  · iintro ⟨Hb, Hh, -, Hc⟩
    rw [wp_ret]; imodintro
    iapply Hk
    isplitl [Hb]; · iexact Hb
    isplitl [Hh]; · iexact Hh
    iexact Hc
  isplitl [Hb]; · iexact Hb
  isplitl [Hh Hc]
  · isplitl [Hh]; · iexact Hh
    isplitr; · iempintro
    iexact Hc
  isplitl [HL]; · iexact HL
  isplitl [HG1]; · iexact HG1
  iexact HG2

/-- The program on one device: the first operations, the call over its three arrays, the reshape, the pipelined call. -/
theorem hmain [∀ e, Nonempty (Elt F e)] (κ : GSem nD τ sig → ℕ) (d : Dev nD) :
    iprop((K (F := F)).ctx EH (P (tS m) (tA m)) κ ∗ (K (F := F)).tcSt EH d 0 ∗ (K (F := F)).tcRes m ρ d ∗ G d)
      ⊢ wp Idealize.ShloMosaic.frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrays (W0 m d) from unscopedBufs_arrays d (W0 m d), main_eq]
  iintro ⟨#Hctx, Hst, ⟨Hb, Hheld, Hts, -⟩, HG⟩
  iapply (wp_seq 𝒱 none Set.univ d arrays (fun _ => later d) ops ops_sub ops_fresh (W0 m d)) $$ [Hb Hheld]
  · isplitl [Hb]; · iexact Hb
    iexact Hheld
  iintro ⟨Hb, Hheld⟩
  simp only [later, wp_bind, wp_pure]
  rw [show after ops (W0 m d) = W1 m d from rfl]
  ihave Hh := (Entails.of_eq (held_sub_split (T d) three_sub (W1 m d))) $$ Hheld
  icases Hh with ⟨H3, Hrest⟩
  ihave H3' := (Entails.of_eq (held_three (F := F) d (W1 m d))) $$ H3
  icases H3' with ⟨Hn, Ht, Ho⟩
  iapply ((K (F := F)).wp_run (D (F := F)) 𝒱 (EH := EH) (P := P (tS m) (tA m)) κ d 0) $$ [Hst Hn Ht Ho Hb Hrest Hts HG]
  isplitr; · iexact Hctx
  isplitl [Hst]; · iexact Hst
  isplitl [Hn Ht Ho]
  · rw [st_eq, W1_v6, W1_v11]
    unfold handed
    isplitl [Hn]; · iexact Hn
    isplitl [Ht]; · iexact Ht
    iexists _; iexact Ho
  iintro ⟨Hst, Hdn⟩
  ihave Hdn' := (Entails.of_eq (dn_eq (tS m) (tA m) d)) $$ Hdn
  unfold brought
  icases Hdn' with ⟨Hn, Ht, Ho⟩
  iapply (wp_hlo_within 𝒱 (SparseCore.T d) none Set.univ (op := asLine) (S := arrays) asLine_sub (V := W2 m d)) $$ [Hb Hn Ht Ho Hrest]
  · isplitl [Hb]; · iexact Hb
    rw [held_sub_split (T d) three_sub (W2 m d), held_three, W2_v6, W2_v11, W2_v12, W2_rest]
    isplitl [Hn Ht Ho]
    · isplitl [Hn]; · iexact Hn
      isplitl [Ht]; · iexact Ht
      iexact Ho
    iexact Hrest
  iintro ⟨Hb, Hheld⟩
  rw [wp_ret]; imodintro
  rw [show (asLine (F := F)).result (W2 m d) = W3 m d from rfl, inner_lift]
  unfold SparseCore.Cfg.tcSt
  icases Hst with ⟨⟨%W, %hW, HO⟩, Hrounds⟩
  iapply (last_call m d)
  isplitr [Hb Hheld HO HG]
  · iintro ⟨Hb, Hheld, HO⟩
    unfold carried
    icases HO with ⟨%W', %hW', HO⟩
    imodintro
    isplitl [HO Hrounds]
    · isplitl [HO]
      · iexists W'; isplitr; · ipureintro; exact hW'
        rw [(K (F := F)).Otc_end d (le_refl 1)]
        iexact HO
      iexact Hrounds
    isplitl [Hheld]; · unfold FIN; iexact Hheld
    isplitl [Hb]; · iexact Hb
    iexact Hts
  isplitl [Hb]; · iexact Hb
  isplitl [Hheld]; · iexact Hheld
  isplitl [HO]
  · unfold carried
    iexists W; isplitr; · ipureintro; exact hW
    rw [← (K (F := F)).Otc_end (N := 1) d (le_refl 1)]
    iexact HO
  isplitr; · iapply ((K (F := F)).ctx_levAts (EH := EH) (P := P (tS m) (tA m)) κ); iexact Hctx
  iexact HG

/-! ## The run -/

/-- A buffer held is what the memory holds. -/
theorem held_read (d : Dev nD) (s' : Phys nD τ sig (Elt F)) (b : DevRef τ sig) (hb : b ∈ arrays) :
    iprop(FIN m d ∗ SI s') ⊢ (⌜s'.mem.mem (d, b) = W4 m d b⌝ : sProp 𝕄) := by
  unfold FIN held
  rw [SparseCore.bigSep_erase' hb]
  iintro ⟨⟨Hx, -⟩, HSI⟩
  ihave H := (SI_pointsTo_agree (st := s') (ℓ := (d, b)) (I := Finset.univ) (q := fullShare) (f := W4 m d b)) $$ [HSI Hx]
  · isplitl [HSI]; · iexact HSI
    iexact Hx
  icases H with %hx
  ipureintro; exact funext fun i => hx i (Finset.mem_univ i)

def fq (d : Dev nD) (s' : Phys nD τ sig (Elt F)) : Prop := ∀ b ∈ arrays, s'.mem.mem (d, b) = W4 m d b

theorem hfin (d : Dev nD) (s' : Phys nD τ sig (Elt F)) : iprop(FIN m d ∗ SI s') ⊢ (⌜fq m d s'⌝ : sProp 𝕄) := by
  unfold fq
  refine (BI.Laws.forall_intro fun b => ?_).trans BI.Laws.pure_forall.2
  exact (BI.Laws.forall_intro fun hb => held_read m d s' b hb).trans BI.Laws.pure_forall.2

/-- The tables' entries name tokens. -/
def Tables : Prop := (∀ d, InRange (tS m d)) ∧ (∀ d, InRange (tA m d))

def QC : PUnit × MemSt nD τ sig (Elt F) → Prop := fun r =>
  (∀ d : Dev nD, ∀ b ∈ arrays, r.2.mem (d, b) = W4 m d b) ∧ r.2.sem = fun _ => 0

theorem run_main [∀ e, Nonempty (Elt F e)] (hT : Tables m) :
    θ_run (Cert.SparseIdeal.defs (F := F)) (Cert.SparseIdeal.threads (F := F)) ⟨m, fun _ => 0, ρ⟩ (QC m) :=
  SparseCore.Cfg.θ_run_sc_quiescent (K := K (F := F)) (D := D (F := F)) (𝒱 := 𝒱) (EH := EH) (P := P (tS m) (tA m)) (A := ∅) facts v₀
    (fun q hq => match q with | 0 => nomatch hq)
    (fun q _ => match q with | 0 => tileObl (tS m) (tA m) hT.1 hT.2 facts)
    (fun q _ => match q with | 0 => SparseCore.Cfg.VecSplit.of_plain (vecSplit (tS m) (tA m)))
    m ρ main (fun d => G d) (FIN m) (u₀ (F := F)) (sep_elim_left.trans (hu₀ m)) (hmain m ρ) (fq m) (hfin m) (QC m) (fun _ h hz => ⟨h, hz⟩)

/-- Every run ends with the arguments as they were, the counters at zero and the mask as the pipelined call leaves it. -/
theorem run_ends [∀ e, Nonempty (Elt F e)] (hT : Tables m) :
    θ_run (Cert.SparseIdeal.defs (F := F)) (Cert.SparseIdeal.threads (F := F)) ⟨m, fun _ => 0, ρ⟩ (fun r => (∀ c : Dev nD,
      r.2.mem ((c.tc : Thread nD τ).loc main_v14) = masked (V3 m) (table m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c dv14 (by decide)).trans (V4_out m c),
      (h.1 c main_arg0 (by decide)).trans (W4_arg0 m c), (h.1 c main_arg1 (by decide)).trans (W4_arg1 m c),
      (h.1 c main_arg2 (by decide)).trans (W4_arg2 m c), (h.1 c main_arg3 (by decide)).trans (W4_arg3 m c)⟩, h.2⟩) (run_main m ρ hT)

end Cert.SparseIdeal.Hand

end
-- ==== Proof.ScValue.lean ====
/-
  What the second program's mask holds on the extended reals: the mask of its timestep table, the same function as the
  first program's, here in sixteen blocks of 256 rows.
-/
module

public import proofs.«01_k».proof.Proof.ScRun
public import proofs.«01_k».proof.Proof.Value

@[expose] public section

set_option maxRecDepth 16384

noncomputable section

namespace Cert.SparseIdeal.Hand

open Cert.SparseIdeal Cert.SparseIdeal.Gen Cert.Mask
open Idealize.ShloMosaic Idealize.ShloMosaic.TcCoe
open Idealize.SL Idealize.SL.Sem
open Idealize.ShloMosaic.Pipeline (Dat Cfg Window)

/-- Both programs make the same comparison matrix of a table. -/
theorem compare_at (g : Stamps) (k : Fin 64) (p : Fin 4096) :
    k1_pay1 (F := Ideal) (line g) (ix2 k p) = Cert.KernelIdeal.Gen.k0_pay1 (F := Ideal) (Cert.KernelIdeal.Hand.row g) (ix2 k p) := by
  unfold k1_pay1 Cert.KernelIdeal.Gen.k0_pay1
  pointwise
  rfl

/-- A block of the mask: the one-hot rows times the comparison matrix. -/
theorem rows_at (v : S1x256.Idx → BitVec 32) (M : S64x4096.Idx → Ideal .bf16) (r : Fin 256) (p : Fin 4096) :
    k1_pay2 (F := Ideal) v M (ix2 r p) = ∑ k : Fin 64, (if BitVec.ofNat 32 k.val = v (ix2 0 r) then (1 : EReal) else 0) * M (ix2 k p) := by
  unfold k1_pay2
  pointwise
  refine Finset.sum_congr rfl fun k _ => ?_
  rw [Cert.KernelIdeal.Hand.bit_val]
  refine congrArg (fun x : EReal => x * M (ix2 k p)) (if_congr ?_ rfl rfl)
  exact IntOp.cmpi_eq

variable (V : (c : Dev nD) → (b : Ref sig .tc) → Buf (Elt Ideal) ((c : Thread nD τ).loc b)) (g : Dev nD → Stamps)

/-- The mask of a table, as the result array. -/
def maskOf (c : Dev nD) : Buf (Elt Ideal) ((c : Thread nD τ).loc main_v14) := fun i : S4096x4096.Idx => mask (g c) (i 0) (i 1)

theorem off1_eq : ∀ t : Fin grid1.N, k1_off1 (grid1.coords t) = ![0, t.val * 256] := by decide +kernel

theorem block_facts : ∀ t : Fin grid1.N, win1_1.index t 0 * win1_1.size 0 = t.val * 256 ∧ win1_1.xsize (grid1.coords t) 0 = 256
      ∧ win1_1.index t 1 * win1_1.size 1 = 0 ∧ win1_1.xsize (grid1.coords t) 1 = 4096 := by decide +kernel

/-- An index of the mask is in point `t`'s block exactly when its row is one of the block's 256. -/
theorem mem_block (t : Fin cfg1.N) (i : S4096x4096.Idx) :
    i ∈ ((cfg1.win 1).blk t).view.set ↔ t.val * 256 ≤ (i 0 : Nat) ∧ (i 0 : Nat) < t.val * 256 + 256 := by
  show i ∈ ((View.whole main_v14).slice (win1_1.rect t)).set ↔ _
  rw [View.set_slice_whole, Rect.mem_set_unit]
  have h1 : (i 1 : Nat) < 4096 := (i 1).isLt
  have e := block_facts t
  refine ⟨fun h => ?_, fun h a => ?_⟩
  · have : win1_1.index t 0 * win1_1.size 0 ≤ (i 0 : Nat) ∧ (i 0 : Nat) < win1_1.index t 0 * win1_1.size 0 + win1_1.xsize (grid1.coords t) 0 := h 0
    rw [e.1, e.2.1] at this; exact this
  · match a with
    | ⟨0, _⟩ => show win1_1.index t 0 * win1_1.size 0 ≤ (i 0 : Nat) ∧ (i 0 : Nat) < win1_1.index t 0 * win1_1.size 0 + win1_1.xsize (grid1.coords t) 0
                rw [e.1, e.2.1]; exact h
    | ⟨1, _⟩ => show win1_1.index t 1 * win1_1.size 1 ≤ (i 1 : Nat) ∧ (i 1 : Nat) < win1_1.index t 1 * win1_1.size 1 + win1_1.xsize (grid1.coords t) 1
                rw [e.2.2.1, e.2.2.2]; omega

/-- The sixteen blocks cover the mask. -/
theorem blocks_cover (i : S4096x4096.Idx) :
    ∃ t : Fin cfg1.N, (cfg1.win 1).flush t = true ∧ i ∈ ((cfg1.win 1).blk t).view.set := by
  have h0 : (i 0 : Nat) < 4096 := (i 0).isLt
  have hN : cfg1.N = 16 := N_1
  refine ⟨⟨(i 0 : Nat) / 256, by omega⟩, flush1_1 _, ?_⟩
  rw [mem_block]
  dsimp only
  omega

/-- A point's block, entry by entry: its rows' part of the mask. -/
theorem maskAt_at (hg : ∀ c p, Stamp (g c p)) (c : Dev nD) (t : Fin cfg1.N) (r : Fin 256) (p : Fin 4096) (hr : t.val * 256 + r.val < 4096) :
    maskAt (F := Ideal) g c t (ix2 r p) = (mask (g c) ⟨t.val * 256 + r.val, hr⟩ p : EReal) := by
  unfold maskAt
  refine (rows_at _ _ r p).trans (Eq.trans ?_ (Cert.KernelIdeal.Hand.pick (g c) (hg c) _ p))
  refine Finset.sum_congr rfl fun k _ => ?_
  rw [compare_at]
  refine congrArg (fun w : BitVec 32 => (if BitVec.ofNat 32 k.val = w then (1 : EReal) else 0)
    * Cert.KernelIdeal.Gen.k0_pay1 (F := Ideal) (Cert.KernelIdeal.Hand.row (g c)) (ix2 k p)) ?_
  refine congrArg (g c) (Fin.ext ?_)
  show k1_off1 (grid1.coords t) 1 + 1 * r.val = _
  rw [off1_eq t]
  show t.val * 256 + 1 * r.val = _
  rw [Nat.one_mul]

/-- What a point writes is its block of the mask. -/
theorem block_eq (hg : ∀ c p, Stamp (g c p)) (c : Dev nD) (t : Fin cfg1.N) :
    (dat1 V g c).flushed 1 t = ((cfg1.win 1).blk t).view.read (Elt Ideal) (maskOf g c) := by
  show (cfg1.win 1).cut (grid1.coords t) ((dat1 V g c).after 1 t) = _
  rw [after1_1]
  have hN : cfg1.N = 16 := N_1
  have ht := t.isLt
  funext (y : S256x4096.Idx)
  have hy0 : (y 0 : Nat) < 256 := (y 0).isLt
  have hy1 : (y 1 : Nat) < 4096 := (y 1).isLt
  have e1 : ((cfg1.win 1).cut (grid1.coords t) (maskAt (F := Ideal) g c t)) y = maskAt (F := Ideal) g c t (ix2 ⟨y 0, hy0⟩ ⟨y 1, hy1⟩) :=
    congrArg (maskAt (F := Ideal) g c t) (funext fun a => by fin_cases a <;> rfl)
  have e2 : ((cfg1.win 1).blk t).view.read (Elt Ideal) (maskOf g c) y = mask (g c) ⟨t.val * 256 + (y 0 : Nat), by omega⟩ ⟨y 1, hy1⟩ := by
    have b := block_facts t
    refine congrArg₂ (mask (g c)) (Fin.ext ?_) (Fin.ext ?_)
    · show win1_1.index t 0 * win1_1.size 0 + 1 * (y 0 : Nat) = _
      rw [b.1, Nat.one_mul]
    · show win1_1.index t 1 * win1_1.size 1 + 1 * (y 1 : Nat) = _
      rw [b.2.2.1, Nat.one_mul, Nat.zero_add]
  rw [e1, e2]
  exact maskAt_at g hg c t _ _ _

/-- The result array ends holding the mask. -/
theorem masked_eq (hg : ∀ c p, Stamp (g c p)) (c : Dev nD) : masked V g c = maskOf g c :=
  (dat1 V g c).arrAt_eq_of_cover 1 (maskOf g c) (fun t _ => block_eq V g hg c t) blocks_cover

end Cert.SparseIdeal.Hand

end
-- ==== Proof.ScSame.lean ====
/-
  The second program's text and its idealization's are the same: the body table and the threads of the one are those of
  the other.
-/
module

public import proofs.«01_k».proof.Proof.Gen.Sparse
public import proofs.«01_k».proof.Proof.Gen.SparseIdeal

@[expose] public section

noncomputable section

namespace Cert.Same

open Idealize.ShloMosaic

attribute [local instance] Cert.Sparse.Gen.facts Cert.SparseIdeal.Gen.facts

variable {F : FTy → Type} [FloatOps F]

/-- The kernel bodies' table. -/
theorem sparse_bodies : Cert.Sparse.defs₀ (F := F) = Cert.SparseIdeal.defs₀ (F := F) := by
  unfold Cert.Sparse.defs₀ Cert.SparseIdeal.defs₀
  funext k l x
  match k, l, x with
  | .tc, 0, _ => rfl
  | .tc, 1, (t, s) => rfl
  | .scScalar _, _, _ => rfl
  | .scVector c s, 0, x => rfl
  | .scVector c s, 1, x => rfl

/-- The whole body table. -/
theorem sparse_defs : Cert.Sparse.defs (F := F) = Cert.SparseIdeal.defs (F := F) :=
  congrArg (fun D => (Cert.SparseIdeal.sc (F := F)).defs (Pipeline.defs Cert.SparseIdeal.pcfgs D)) (sparse_bodies (F := F))

/-- The host's program. -/
theorem sparse_main : Cert.Sparse.main (F := F) = Cert.SparseIdeal.main (F := F) := rfl

/-- The mesh's threads. -/
theorem sparse_threads : Cert.Sparse.threads (F := F) = Cert.SparseIdeal.threads (F := F) :=
  congrArg (Cert.SparseIdeal.sc (F := F)).threads (sparse_main (F := F))

end Cert.Same

end
-- ==== Proof.lean ====
/-
  The proof of the certificate's claim: the mask kernel of one TensorCore call, the mask kernel whose timestep vector a
  SparseCore call makes and the reference each run and leave their arguments and counters as they were, and on the
  extended reals all three results are the mask of the tables.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Sparse
public import proofs.«01_k».proof.Proof.Gen.SparseIdeal
public import proofs.«01_k».proof.Proof.Gen.SparseIdeal.Skeleton
public import proofs.«01_k».proof.Proof.Gen.SparseIdeal.Launch
public import proofs.«01_k».proof.Proof.Gen.SparseIdeal.Points
public import proofs.«01_k».proof.Proof.Gen.Pre_drawn
public import proofs.«01_k».proof.Proof.Gen.Pre_tokens
public import proofs.«01_k».proof.Proof.Frame
public import proofs.«01_k».proof.Proof.Value
public import proofs.«01_k».proof.Proof.RefValue
public import proofs.«01_k».proof.Proof.Pre
public import proofs.«01_k».proof.Proof.Same
public import proofs.«01_k».proof.Proof.ScRun
public import proofs.«01_k».proof.Proof.ScValue
public import proofs.«01_k».proof.Proof.ScSame
public import Idealize.ShloMosaic.Adequacy
public import Idealize.ShloMosaic.Init

@[expose] public section

noncomputable section

namespace Cert.Proof

open Idealize.ShloMosaic Idealize.SL.Sem Cert.Mask

attribute [local instance] Cert.Kernel.Gen.facts Cert.KernelIdeal.Gen.facts Cert.ReferenceIdeal.Gen.facts Cert.Pre_drawn.Gen.facts Cert.Pre_tokens.Gen.facts
  Cert.Sparse.Gen.facts Cert.SparseIdeal.Gen.facts

/-- The idealized kernel's tables name tokens. -/
theorem tables_ideal (m : (ℓ : Loc Cert.KernelIdeal.nD Cert.KernelIdeal.τ Cert.KernelIdeal.sig) → Buf (Elt Ideal) ℓ) (h : Cert.Pre_KernelIdeal m) :
    Cert.KernelIdeal.Hand.Tables m := fun c =>
  have q := tokens_read _ _ _ _ (h c)
  ⟨fun _ _ => q.1 _, fun _ _ => q.2 _⟩

/-- So do they under the whole precondition. -/
theorem tables_drawn (m : (ℓ : Loc Cert.KernelIdeal.nD Cert.KernelIdeal.τ Cert.KernelIdeal.sig) → Buf (Elt Ideal) ℓ) (h : Cert.Pre_KernelIdeal_drawn m) :
    Cert.KernelIdeal.Hand.Tables m := fun c =>
  have q := drawn_read _ _ _ _ (h c)
  ⟨fun _ _ => q.2.2.1 _, fun _ _ => q.2.2.2 _⟩

/-- And so do the kernel's, whose text is the same. -/
theorem tables_bits (m : (ℓ : Loc Cert.Kernel.nD Cert.Kernel.τ Cert.Kernel.sig) → Buf (Elt Bits) ℓ) (h : Cert.Pre_Kernel m) :
    Cert.KernelIdeal.Hand.Tables (F := Bits) m := fun c =>
  have q := tokens_read _ _ _ _ (h c)
  ⟨fun _ _ => q.1 _, fun _ _ => q.2 _⟩

theorem frame_kernel : Cert.quiescent_Kernel := fun m g h => by
  rw [Cert.Same.defs_eq]
  exact (θ_run Cert.KernelIdeal.defs _ _).mono (fun _ q => ⟨fun c => (q.1 c).2, q.2⟩) (Cert.KernelIdeal.Hand.run_ends (F := Bits) m g (tables_bits m h))

theorem frame_ideal : Cert.quiescent_KernelIdeal := fun m g h =>
  (θ_run Cert.KernelIdeal.defs _ _).mono (fun _ q => ⟨fun c => (q.1 c).2, q.2⟩) (Cert.KernelIdeal.Hand.run_ends m g (tables_ideal m h))

theorem frame_ideal_drawn : Cert.quiescent_KernelIdeal_pre_drawn := fun m g h =>
  (θ_run Cert.KernelIdeal.defs _ _).mono (fun _ q => ⟨fun c => (q.1 c).2, q.2⟩) (Cert.KernelIdeal.Hand.run_ends m g (tables_drawn m h))

theorem frame_reference : Cert.quiescent_ReferenceIdeal := fun m g _ =>
  (θ_run Cert.ReferenceIdeal.defs _ _).mono (fun r q => ⟨fun c => (q c).2, sem_eq_zero_of_no_sems (by decide) r.2⟩)
    (Cert.ReferenceIdeal.Value.run (F := Ideal) m g)

theorem frame_reference_drawn : Cert.quiescent_ReferenceIdeal_pre_drawn := fun m g _ =>
  (θ_run Cert.ReferenceIdeal.defs _ _).mono (fun r q => ⟨fun c => (q c).2, sem_eq_zero_of_no_sems (by decide) r.2⟩)
    (Cert.ReferenceIdeal.Value.run (F := Ideal) m g)

/-- Both results are the mask of the tables as launched. -/
theorem equal : Cert.algebraic_KernelIdeal_ReferenceIdeal_pre_drawn := fun m g m' g' h hA => by
  refine ⟨fun c => Cert.KernelIdeal.Hand.maskArr m c, ?_, ?_⟩
  · exact (θ_run Cert.KernelIdeal.defs _ _).mono (fun _ q c => ⟨(q.1 c).1.trans (Cert.KernelIdeal.Hand.result_mask m c), (q.1 c).2⟩)
      (Cert.KernelIdeal.Hand.run_ends m g (tables_drawn m h))
  · refine (θ_run Cert.ReferenceIdeal.defs _ _).mono (fun _ q c => ⟨(q c).1.trans ?_, (q c).2⟩) (Cert.ReferenceIdeal.Value.run (F := Ideal) m' g')
    have d := drawn_read _ _ _ _ (h c)
    obtain ⟨a0, a1, a2, a3⟩ := hA c
    refine (Cert.ReferenceIdeal.Hand.result_mask m' c (fun i => ?_) (fun t e => ?_) (fun t e => ?_) (fun t e => ?_)).trans ?_
    · rw [a0]; exact drawn_zero _ (d.1 i)
    · rw [a1]; exact d.2.1 t e
    · rw [a2]; exact d.2.2.1 _
    · rw [a3]; exact d.2.2.2 _
    · rw [a2, a3]; rfl

/-! ## The program with the SparseCore call -/

/-- Its tables name tokens. -/
theorem sparse_tables (m : (ℓ : Loc Cert.SparseIdeal.nD Cert.SparseIdeal.τ Cert.SparseIdeal.sig) → Buf (Elt Ideal) ℓ) (h : Cert.Pre_SparseIdeal m) :
    Cert.SparseIdeal.Hand.Tables m :=
  ⟨fun c _ _ => (tokens_read _ _ _ _ (h c)).1 _, fun c _ _ => (tokens_read _ _ _ _ (h c)).2 _⟩

theorem sparse_tables_drawn (m : (ℓ : Loc Cert.SparseIdeal.nD Cert.SparseIdeal.τ Cert.SparseIdeal.sig) → Buf (Elt Ideal) ℓ) (h : Cert.Pre_SparseIdeal_drawn m) :
    Cert.SparseIdeal.Hand.Tables m :=
  ⟨fun c _ _ => (drawn_read _ _ _ _ (h c)).2.2.1 _, fun c _ _ => (drawn_read _ _ _ _ (h c)).2.2.2 _⟩

theorem sparse_tables_bits (m : (ℓ : Loc Cert.Sparse.nD Cert.Sparse.τ Cert.Sparse.sig) → Buf (Elt Bits) ℓ) (h : Cert.Pre_Sparse m) :
    Cert.SparseIdeal.Hand.Tables (F := Bits) m :=
  ⟨fun c _ _ => (tokens_read _ _ _ _ (h c)).1 _, fun c _ _ => (tokens_read _ _ _ _ (h c)).2 _⟩

theorem frame_sparse : Cert.quiescent_Sparse := fun m g h => by
  rw [Cert.Same.sparse_defs, Cert.Same.sparse_threads]
  exact (θ_run Cert.SparseIdeal.defs _ _).mono (fun _ q => ⟨fun c => (q.1 c).2, q.2⟩)
    (Cert.SparseIdeal.Hand.run_ends (F := Bits) m g (sparse_tables_bits m h))

theorem frame_sparse_ideal : Cert.quiescent_SparseIdeal := fun m g h =>
  (θ_run Cert.SparseIdeal.defs _ _).mono (fun _ q => ⟨fun c => (q.1 c).2, q.2⟩) (Cert.SparseIdeal.Hand.run_ends m g (sparse_tables m h))

theorem frame_sparse_drawn : Cert.quiescent_SparseIdeal_pre_drawn := fun m g h =>
  (θ_run Cert.SparseIdeal.defs _ _).mono (fun _ q => ⟨fun c => (q.1 c).2, q.2⟩) (Cert.SparseIdeal.Hand.run_ends m g (sparse_tables_drawn m h))

/-- Its result and the reference's are the mask of the tables as launched. -/
theorem equal_sparse : Cert.algebraic_SparseIdeal_ReferenceIdeal_pre_drawn := fun m g m' g' h hA => by
  refine ⟨fun c => Cert.SparseIdeal.Hand.maskOf (Cert.SparseIdeal.Hand.table m) c, ?_, ?_⟩
  · exact (θ_run Cert.SparseIdeal.defs _ _).mono
      (fun _ q c => ⟨(q.1 c).1.trans (Cert.SparseIdeal.Hand.masked_eq _ _ (fun _ => stamps_stamp _ _) c), (q.1 c).2⟩)
      (Cert.SparseIdeal.Hand.run_ends m g (sparse_tables_drawn m h))
  · refine (θ_run Cert.ReferenceIdeal.defs _ _).mono (fun _ q c => ⟨(q c).1.trans ?_, (q c).2⟩) (Cert.ReferenceIdeal.Value.run (F := Ideal) m' g')
    have d := drawn_read _ _ _ _ (h c)
    obtain ⟨a0, a1, a2, a3⟩ := hA c
    refine (Cert.ReferenceIdeal.Hand.result_mask m' c (fun i => ?_) (fun t e => ?_) (fun t e => ?_) (fun t e => ?_)).trans ?_
    · rw [a0]; exact drawn_zero _ (d.1 i)
    · rw [a1]; exact d.2.1 t e
    · rw [a2]; exact d.2.2.1 _
    · rw [a3]; exact d.2.2.2 _
    · rw [a2, a3]; rfl

/-- The certificate's claim. -/
theorem claim : Cert.Claim :=
  ⟨Cert.Kernel.Gen.facts, Cert.KernelIdeal.Gen.facts, Cert.ReferenceIdeal.Gen.facts, Cert.Sparse.Gen.facts, Cert.SparseIdeal.Gen.facts,
    Cert.Pre_tokens.Gen.facts, Cert.Pre_drawn.Gen.facts,
    frame_kernel, frame_ideal, frame_ideal_drawn, frame_reference, frame_reference_drawn, frame_sparse, frame_sparse_ideal, frame_sparse_drawn,
    trivial, equal, trivial, equal_sparse⟩

end Cert.Proof

end
